-- ==== Defs.lean ====
def Pre_Kernel [hPre_indices : Cert.Pre_indices.Facts] (m : (ℓ : Loc Cert.Kernel.nD Cert.Kernel.τ Cert.Kernel.sig) → Buf (Elt Bits) ℓ) : Prop :=
  ∀ c : Dev Cert.Kernel.nD,
    (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices : Cert.Pre_indices.Facts] (m : (ℓ : Loc Cert.KernelIdeal.nD Cert.KernelIdeal.τ Cert.KernelIdeal.sig) → Buf (Elt Ideal) ℓ) : Prop :=
  ∀ c : Dev Cert.KernelIdeal.nD,
    (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_indices : Cert.Pre_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices : Cert.Pre_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices : Cert.Pre_indices.Facts) (hPre_ranges : Cert.Pre_ranges.Facts),
    quiescent_Kernel (hKernel := hKernel) (hPre_indices := hPre_indices)
    ∧ quiescent_KernelIdeal (hKernelIdeal := hKernelIdeal) (hPre_indices := hPre_indices)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_indices.lean ====
abbrev S100000 : Shape := ⟨1, ![100000]⟩
abbrev S2x3200000 : Shape := ⟨2, ![2, 3200000]⟩
abbrev S_ : Shape := ⟨0, ![]⟩

class Facts : Prop where
  bcast_S_S2x3200000 : S_.BroadcastsInDim S2x3200000 (![] : Fin 0 → Fin S2x3200000.rank)
  reducesTo_S2x3200000_S_d0_1 : S2x3200000.ReducesTo [0, 1] S_
  h_S_ : 0 < S_.numel

variable [Facts]

def fn {F : FTy → Type} [FloatOps F] (main_arg0 : FVec F S100000 .f32) (main_arg1 : IVec S2x3200000 32) (main_arg2 : IVec S2x3200000 32) : IVec S_ 1 :=
  let main_c : IVec S_ 32 := constantI S_ 32 0#32
  let main_v0 : IVec S2x3200000 32 := broadcastInDim S2x3200000 ![] bcast_S_S2x3200000 main_c
  let main_v1 : IVec S2x3200000 1 := cmpi .sge main_arg1 main_v0
  let main_c_0 : IVec S_ 32 := constantI S_ 32 100000#32
  let main_v2 : IVec S2x3200000 32 := broadcastInDim S2x3200000 ![] bcast_S_S2x3200000 main_c_0
  let main_v3 : IVec S2x3200000 1 := cmpi .slt main_arg1 main_v2
  let main_v4 : IVec S2x3200000 1 := andi main_v1 main_v3
  let main_c_1 : IVec S_ 1 := constantI S_ 1 1#1
  let main_v5 : IVec S_ 1 := (fun x v => Host.reduce IntOp.andi x v reducesTo_S2x3200000_S_d0_1 h_S_) main_v4 main_c_1
  let main_c_2 : IVec S_ 32 := constantI S_ 32 0#32
  let main_v6 : IVec S2x3200000 32 := broadcastInDim S2x3200000 ![] bcast_S_S2x3200000 main_c_2
  let main_v7 : IVec S2x3200000 1 := cmpi .sge main_arg2 main_v6
  let main_c_3 : IVec S_ 32 := constantI S_ 32 100000#32
  let main_v8 : IVec S2x3200000 32 := broadcastInDim S2x3200000 ![] bcast_S_S2x3200000 main_c_3
  let main_v9 : IVec S2x3200000 1 := cmpi .slt main_arg2 main_v8
  let main_v10 : IVec S2x3200000 1 := andi main_v7 main_v9
  let main_c_4 : IVec S_ 1 := constantI S_ 1 1#1
  let main_v11 : IVec S_ 1 := (fun x v => Host.reduce IntOp.andi x v reducesTo_S2x3200000_S_d0_1 h_S_) main_v10 main_c_4
  let main_v12 : IVec S_ 1 := andi main_v5 main_v11
  main_v12
-- ==== Pre_ranges.lean ====
abbrev S100000 : Shape := ⟨1, ![100000]⟩
abbrev S2x3200000 : Shape := ⟨2, ![2, 3200000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg2 : IVec S2x3200000 32) (main_v12 : IVec S_ 1) (main_v14 : IVec S2x3200000 1) (main_v15 : IVec S2x3200000 32) : IVec S_ 1 :=
  let main_v16 : IVec S2x3200000 1 := cmpi .slt main_arg2 main_v15
  let main_v17 : IVec S2x3200000 1 := andi main_v14 main_v16
  let main_c_6 : IVec S_ 1 := constantI S_ 1 1#1
  let main_v18 : IVec S_ 1 := (fun x v => Host.reduce IntOp.andi x v reducesTo_S2x3200000_S_d0_1 h_S_) main_v17 main_c_6
  let main_v19 : IVec S_ 1 := andi main_v12 main_v18
  main_v19

def fn {F : FTy → Type} [FloatOps F] (main_arg0 : FVec F S100000 .f32) (main_arg1 : IVec S2x3200000 32) (main_arg2 : IVec S2x3200000 32) : IVec S_ 1 :=
  let main_cst : FVec F S_ .f32 := constant S_ .f32 0x00000000#32
  let main_v0 : FVec F S100000 .f32 := broadcastInDim S100000 ![] bcast_S_S100000 main_cst
  let main_v1 : IVec S100000 1 := cmpf .oge main_arg0 main_v0
  let main_cst_0 : FVec F S_ .f32 := constant S_ .f32 0x3F800000#32
  let main_v2 : FVec F S100000 .f32 := broadcastInDim S100000 ![] bcast_S_S100000 main_cst_0
  let main_v3 : IVec S100000 1 := cmpf .olt main_arg0 main_v2
  let main_v4 : IVec S100000 1 := andi main_v1 main_v3
  let main_c : IVec S_ 1 := constantI S_ 1 1#1
  let main_v5 : IVec S_ 1 := (fun x v => Host.reduce IntOp.andi x v reducesTo_S100000_S_d0 h_S_) main_v4 main_c
  let main_c_1 : IVec S_ 32 := constantI S_ 32 0#32
  let main_v6 : IVec S2x3200000 32 := broadcastInDim S2x3200000 ![] bcast_S_S2x3200000 main_c_1
  let main_v7 : IVec S2x3200000 1 := cmpi .sge main_arg1 main_v6
  let main_c_2 : IVec S_ 32 := constantI S_ 32 100000#32
  let main_v8 : IVec S2x3200000 32 := broadcastInDim S2x3200000 ![] bcast_S_S2x3200000 main_c_2
  let main_v9 : IVec S2x3200000 1 := cmpi .slt main_arg1 main_v8
  let main_v10 : IVec S2x3200000 1 := andi main_v7 main_v9
  let main_c_3 : IVec S_ 1 := constantI S_ 1 1#1
  let main_v11 : IVec S_ 1 := (fun x v => Host.reduce IntOp.andi x v reducesTo_S2x3200000_S_d0_1 h_S_) main_v10 main_c_3
  let main_v12 : IVec S_ 1 := andi main_v5 main_v11
  let main_c_4 : IVec S_ 32 := constantI S_ 32 0#32
  let main_v13 : IVec S2x3200000 32 := broadcastInDim S2x3200000 ![] bcast_S_S2x3200000 main_c_4
  let main_v14 : IVec S2x3200000 1 := cmpi .sge main_arg2 main_v13
  let main_c_5 : IVec S_ 32 := constantI S_ 32 100000#32
  let main_v15 : IVec S2x3200000 32 := broadcastInDim S2x3200000 ![] bcast_S_S2x3200000 main_c_5
  fn_part1 (F := F) main_arg2 main_v12 main_v14 main_v15
-- ==== Kernel.lean ====
abbrev S100000 : Shape := ⟨1, ![100000]⟩
abbrev S2x3200000 : Shape := ⟨2, ![2, 3200000]⟩
abbrev S_ : Shape := ⟨0, ![]⟩
abbrev S102400 : Shape := ⟨1, ![102400]⟩
abbrev S32x3200 : Shape := ⟨2, ![32, 3200]⟩
abbrev S1x3200 : Shape := ⟨2, ![1, 3200]⟩
abbrev S32x1 : Shape := ⟨2, ![32, 1]⟩
abbrev S3200 : Shape := ⟨1, ![3200]⟩
abbrev S6400000 : Shape := ⟨1, ![6400000]⟩
abbrev S32x102400 : Shape := ⟨2, ![32, 102400]⟩
abbrev S4000 : Shape := ⟨1, ![4000]⟩
abbrev S16 : Shape := ⟨1, ![16]⟩
abbrev S1x102400 : Shape := ⟨2, ![1, 102400]⟩
abbrev S1x1 : Shape := ⟨2, ![1, 1]⟩
abbrev S32x12800 : Shape := ⟨2, ![32, 12800]⟩
abbrev S12800 : Shape := ⟨1, ![12800]⟩
abbrev S1x12800 : Shape := ⟨2, ![1, 12800]⟩
abbrev S1x1x12800 : Shape := ⟨3, ![1, 1, 12800]⟩
abbrev S1 : Shape := ⟨1, ![1]⟩
abbrev S1x1x1 : Shape := ⟨3, ![1, 1, 1]⟩

abbrev nBuf : Table → Nat
  | .hbm => 15
  | .local .tc .vmem => 4
  | .local .tc .smem => 1
  | .local .scVector .vmem => 4
  | _ => 0

abbrev bufTy : (tb : Table) → Fin (nBuf tb) → BufTy
  | .hbm, ⟨0, _⟩ => ⟨S100000, .f32⟩
  | .hbm, ⟨1, _⟩ => ⟨S2x3200000, .i32⟩
  | .hbm, ⟨2, _⟩ => ⟨S2x3200000, .i32⟩
  | .hbm, ⟨3, _⟩ => ⟨S_, .i32⟩
  | .hbm, ⟨4, _⟩ => ⟨S_, .f32⟩
  | .hbm, ⟨5, _⟩ => ⟨S102400, .f32⟩
  | .hbm, ⟨6, _⟩ => ⟨S32x3200, .f32⟩
  | .hbm, ⟨7, _⟩ => ⟨S1x3200, .i32⟩
  | .hbm, ⟨8, _⟩ => ⟨S3200, .i32⟩
  | .hbm, ⟨9, _⟩ => ⟨S6400000, .i32⟩
  | .hbm, ⟨10, _⟩ => ⟨S6400000, .i32⟩
  | .hbm, ⟨11, _⟩ => ⟨S32x102400, .i32⟩
  | .hbm, ⟨12, _⟩ => ⟨S1x1, .i32⟩
  | .hbm, ⟨13, _⟩ => ⟨S_, .i32⟩
  | .hbm, ⟨14, _⟩ => ⟨S_, .f32⟩
  | .local .tc .vmem, ⟨0, _⟩ => ⟨S32x3200, .f32⟩
  | .local .tc .vmem, ⟨1, _⟩ => ⟨S1x3200, .i32⟩
  | .local .tc .vmem, ⟨2, _⟩ => ⟨S32x12800, .i32⟩
  | .local .tc .vmem, ⟨3, _⟩ => ⟨S32x12800, .i32⟩
  | .local .tc .smem, ⟨0, _⟩ => ⟨S1x1, .i32⟩
  | .local .scVector .vmem, ⟨0, _⟩ => ⟨S3200, .i32⟩
  | .local .scVector .vmem, ⟨1, _⟩ => ⟨S102400, .i32⟩
  | .local .scVector .vmem, ⟨2, _⟩ => ⟨S4000, .i32⟩
  | .local .scVector .vmem, ⟨3, _⟩ => ⟨S4000, .i32⟩
  | _, _ => ⟨S100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev main_v6_scv : Ref sig .scVector := ⟨.hbm, 11, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc2_sem0_0 : DmaSem sig := 8
abbrev cc2_sem0_1 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S32x3200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_1 : BitVec 32 := 0#32
  let c6400_i32 : BitVec 32 := 6400#32
  let v4 : BitVec 32 := Scalar.addi c0_i32_1 c6400_i32
  let c1_i32 : BitVec 32 := 1#32
  ⟨c0_i32_1, v4, c1_i32⟩
def k1_off1 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32 : BitVec 32 := 16#32
  let v10 : BitVec 32 := Scalar.muli arg10 c16_i32
  let v11 : Index := Scalar.indexCast v10
  ![v11.toNat]
@[reducible] def k1_t2_loop : Scf.Loop 32 :=
  let c0_i32_4 : BitVec 32 := 0#32
  let c25_i32 : BitVec 32 := 25#32
  let v6 : BitVec 32 := Scalar.addi c0_i32_4 c25_i32
  let c1_i32_5 : BitVec 32 := 1#32
  ⟨c0_i32_4, v6, c1_i32_5⟩
def k1_off2 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c0_i32_4 : BitVec 32 := 0#32
  let c1_i32_5 : BitVec 32 := 1#32
  let arg10 : BitVec 32 := Scf.iv c0_i32_4 c1_i32_5 k1_t2
  let c4000_i32 : BitVec 32 := 4000#32
  let v10 : BitVec 32 := Scalar.muli arg10 c4000_i32
  let v11 : BitVec 32 := Scalar.addi v2 v10
  ![v11.toNat]
def k1_off3 (i : grid1.Coords) (k1_t2 : Fin k1_t2_loop.trips) : Fin 1 → Nat :=
  let c3200000_i32 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c0_i32_4 : BitVec 32 := 0#32
  let c1_i32_5 : BitVec 32 := 1#32
  let arg10 : BitVec 32 := Scf.iv c0_i32_4 c1_i32_5 k1_t2
  let c4000_i32 : BitVec 32 := 4000#32
  let v10 : BitVec 32 := Scalar.muli arg10 c4000_i32
  let v11 : BitVec 32 := Scalar.addi v2 v10
  let v12 : BitVec 32 := Scalar.addi c3200000_i32 v11
  ![v12.toNat]
@[reducible] def k1_t3_loop : Scf.Loop 32 :=
  let c0_i32_13 : BitVec 32 := 0#32
  let c250_i32 : BitVec 32 := 250#32
  let v13 : BitVec 32 := Scalar.addi c0_i32_13 c250_i32
  let c1_i32_14 : BitVec 32 := 1#32
  ⟨c0_i32_13, v13, c1_i32_14⟩
def k1_off4 (k1_t3 : Fin k1_t3_loop.trips) : Fin 1 → Nat :=
  let c0_i32_13 : BitVec 32 := 0#32
  let c1_i32_14 : BitVec 32 := 1#32
  let arg12 : BitVec 32 := Scf.iv c0_i32_13 c1_i32_14 k1_t3
  let c16_i32 : BitVec 32 := 16#32
  let v15 : BitVec 32 := Scalar.muli arg12 c16_i32
  let v16 : Index := Scalar.indexCast v15
  ![v16.toNat]

def k1_chk1 (v22 : IVec S16 32) : Prop :=
  (∀ a x, ((![v22] : Fin 1 → IVec S16 32) a x).toNat < S3200.size a)
theorem k1_idx1_inb : ∀ (v22 : IVec S16 32) (k1_hw1 : k1_chk1 v22), ∀ a x, ((![v22] : Fin 1 → IVec S16 32) a x).toNat < S3200.size a := fun v22 k1_hw1 => k1_hw1

def k1_chk2 (v20 : IVec S16 32) : Prop :=
  (∀ a x, ((![v20] : Fin 1 → IVec S16 32) a x).toNat < S102400.size a)
theorem k1_idx2_inb : ∀ (v20 : IVec S16 32) (k1_hw2 : k1_chk2 v20), ∀ a x, ((![v20] : Fin 1 → IVec S16 32) a x).toNat < S102400.size a := fun v20 k1_hw2 => k1_hw2
@[reducible] def k1_t4_loop : Scf.Loop 32 :=
  let c0_i32_8 : BitVec 32 := 0#32
  let c25_i32_9 : BitVec 32 := 25#32
  let v8 : BitVec 32 := Scalar.addi c0_i32_8 c25_i32_9
  let c1_i32_10 : BitVec 32 := 1#32
  ⟨c0_i32_8, v8, c1_i32_10⟩
def k1_off5 (i : grid1.Coords) (k1_t4 : Fin k1_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c0_i32_8 : BitVec 32 := 0#32
  let c1_i32_10 : BitVec 32 := 1#32
  let arg10 : BitVec 32 := Scf.iv c0_i32_8 c1_i32_10 k1_t4
  let c4000_i32 : BitVec 32 := 4000#32
  let v10 : BitVec 32 := Scalar.muli arg10 c4000_i32
  let v11 : BitVec 32 := Scalar.addi v2 v10
  ![v11.toNat]
def k1_off6 (i : grid1.Coords) (k1_t4 : Fin k1_t4_loop.trips) : Fin 1 → Nat :=
  let c3200000_i32 : BitVec 32 := 3200000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100000_i32 : BitVec 32 := 100000#32
  let v2 : BitVec 32 := Scalar.muli v1 c100000_i32
  let c0_i32_8 : BitVec 32 := 0#32
  let c1_i32_10 : BitVec 32 := 1#32
  let arg10 : BitVec 32 := Scf.iv c0_i32_8 c1_i32_10 k1_t4
  let c4000_i32 : BitVec 32 := 4000#32
  let v10 : BitVec 32 := Scalar.muli arg10 c4000_i32
  let v11 : BitVec 32 := Scalar.addi v2 v10
  let v12 : BitVec 32 := Scalar.addi c3200000_i32 v11
  ![v12.toNat]
@[reducible] def k1_t5_loop : Scf.Loop 32 :=
  let c0_i32_13 : BitVec 32 := 0#32
  let c250_i32 : BitVec 32 := 250#32
  let v13 : BitVec 32 := Scalar.addi c0_i32_13 c250_i32
  let c1_i32_14 : BitVec 32 := 1#32
  ⟨c0_i32_13, v13, c1_i32_14⟩
def k1_off7 (k1_t5 : Fin k1_t5_loop.trips) : Fin 1 → Nat :=
  let c0_i32_13 : BitVec 32 := 0#32
  let c1_i32_14 : BitVec 32 := 1#32
  let arg12 : BitVec 32 := Scf.iv c0_i32_13 c1_i32_14 k1_t5
  let c16_i32 : BitVec 32 := 16#32
  let v15 : BitVec 32 := Scalar.muli arg12 c16_i32
  let v16 : Index := Scalar.indexCast v15
  ![v16.toNat]

def k1_chk3 (v22 : IVec S16 32) : Prop :=
  (∀ a x, ((![v22] : Fin 1 → IVec S16 32) a x).toNat < S3200.size a)
theorem k1_idx3_inb : ∀ (v22 : IVec S16 32) (k1_hw3 : k1_chk3 v22), ∀ a x, ((![v22] : Fin 1 → IVec S16 32) a x).toNat < S3200.size a := fun v22 k1_hw3 => k1_hw3

def k1_chk4 (v20 : IVec S16 32) : Prop :=
  (∀ a x, ((![v20] : Fin 1 → IVec S16 32) a x).toNat < S102400.size a)
theorem k1_idx4_inb : ∀ (v20 : IVec S16 32) (k1_hw4 : k1_chk4 v20), ∀ a x, ((![v20] : Fin 1 → IVec S16 32) a x).toNat < S102400.size a := fun v20 k1_hw4 => k1_hw4
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r5 : BitVec 32 := 0#32
  ![v1.toNat, 0]
abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_2 : BitVec 32 := 0#32
  let v17 : BitVec 1 := Scalar.cmpi .ne v16 c0_i32_2
  v17

def k2_cond2 (i : grid2.Coords) : BitVec 1 :=
  let arg0 : BitVec 32 := BitVec.ofNat 32 (i 0).val
  let c0_i32_3 : BitVec 32 := 0#32
  let v18 : BitVec 1 := Scalar.cmpi .sgt arg0 c0_i32_3
  let v19 : BitVec 32 := Scalar.extui v18
  let c0_i32_4 : BitVec 32 := 0#32
  let v20 : BitVec 1 := Scalar.cmpi .ne v19 c0_i32_4
  v20

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x12800 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .smem S1x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S2x3200000 : Shape := ⟨2, ![2, 3200000]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S6400000 : Shape := ⟨1, ![6400000]⟩
abbrev S6400000x1 : Shape := ⟨2, ![6400000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2x3200000, .i32⟩
  | .hbm, ⟨2, _⟩ => ⟨S2x3200000, .i32⟩
  | .hbm, ⟨3, _⟩ => ⟨S_, .f32⟩
  | .hbm, ⟨4, _⟩ => ⟨S_, .f32⟩
  | .hbm, ⟨5, _⟩ => ⟨S100000, .f32⟩
  | .hbm, ⟨6, _⟩ => ⟨S100000, .f32⟩
  | .hbm, ⟨7, _⟩ => ⟨S_, .f32⟩
  | .hbm, ⟨8, _⟩ => ⟨S_, .i1⟩
  | .hbm, ⟨9, _⟩ => ⟨S100000, .f32⟩
  | .hbm, ⟨10, _⟩ => ⟨S100000, .f32⟩
  | .hbm, ⟨11, _⟩ => ⟨S100000, .f32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .i1⟩
  | .hbm, ⟨20, _⟩ => ⟨S100000, .i1⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S1x3200000, .i32⟩
  | .hbm, ⟨30, _⟩ => ⟨S3200000, .i32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S1x3200000, .i32⟩
  | .hbm, ⟨44, _⟩ => ⟨S3200000, .i32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S6400000, .f32⟩
  | .hbm, ⟨55, _⟩ => ⟨S1x3200000, .i32⟩
  | .hbm, ⟨56, _⟩ => ⟨S3200000, .i32⟩
  | .hbm, ⟨57, _⟩ => ⟨S1x3200000, .i32⟩
  | .hbm, ⟨58, _⟩ => ⟨S3200000, .i32⟩
  | .hbm, ⟨59, _⟩ => ⟨S6400000, .i32⟩
  | .hbm, ⟨60, _⟩ => ⟨S_, .f32⟩
  | .hbm, ⟨61, _⟩ => ⟨S100000, .f32⟩
  | .hbm, ⟨62, _⟩ => ⟨S6400000x1, .i32⟩
  | .hbm, ⟨63, _⟩ => ⟨S100000, .f32⟩
  | .hbm, ⟨64, _⟩ => ⟨S_, .f32⟩
  | .hbm, ⟨65, _⟩ => ⟨S_, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_0 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_cst_1 : Ref sig .tc := ⟨.hbm, 24, rfl⟩
abbrev main_call0_v18 : Ref sig .tc := ⟨.hbm, 25, rfl⟩
abbrev main_call0_v19 : Ref sig .tc := ⟨.hbm, 26, rfl⟩
abbrev main_call0_v20 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c : Ref sig .tc := ⟨.hbm, 31, rfl⟩
abbrev main_v3 : Ref sig .tc := ⟨.hbm, 32, rfl⟩
abbrev main_v4 : Ref sig .tc := ⟨.hbm, 33, rfl⟩
abbrev main_c_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_2 : Ref sig .tc := ⟨.hbm, 45, rfl⟩
abbrev main_v14 : Ref sig .tc := ⟨.hbm, 46, rfl⟩
abbrev main_v15 : Ref sig .tc := ⟨.hbm, 47, rfl⟩
abbrev main_c_3 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_5 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Add.lean ====
/-
  The indexed accumulation in tile memory, as a sum: what a store of sixteen lanes with `add` leaves at an element is
  what was there plus every lane that names the element. Over 32-bit words, whose addition is a commutative ring's.
-/
module

public import Idealize.ShloMosaic.Lib.SparseCore.Ops
public import Idealize.ShloMosaic.Lib.Tactic
public import Mathlib.Algebra.BigOperators.Fin
public import Mathlib.Data.BitVec

@[expose] public section

noncomputable section

namespace Cert.Proof.Add

open Idealize.ShloMosaic

/-- A one-dimensional shape of extent `n`. -/
abbrev V1 (n : ℕ) : Shape := ⟨1, ![n]⟩

/-- Index `n` of a non-empty one-dimensional array (read modulo its extent, so that it is total). -/
def at1 {N : ℕ} [NeZero N] (n : ℕ) : (V1 N).Idx := fun a => ⟨n % N, by
  obtain rfl : a = 0 := Subsingleton.elim _ _
  exact Nat.mod_lt _ (Nat.pos_of_ne_zero (NeZero.ne N))⟩

theorem at1_val {N : ℕ} [NeZero N] {n : ℕ} (h : n < N) (a : Fin 1) : (at1 (N := N) n a).val = n := Nat.mod_eq_of_lt h

/-- An index is the one its coordinate names. -/
theorem eq_at1 {N : ℕ} [NeZero N] (j : (V1 N).Idx) (n : ℕ) (h : (j 0).val = n) : j = at1 n := by
  funext a
  obtain rfl : a = 0 := Subsingleton.elim _ _
  apply Fin.ext
  have hj : (j 0).val < N := (j 0).isLt
  rw [at1_val (h ▸ hj), h]

variable {F : FTy → Type} [FloatOps F]

/-- A fold that adds onto the elements its lanes name: each element ends at its start plus the lanes naming it. -/
theorem foldl_add {N d : ℕ} (l : List (Fin d)) (ix : Fin d → ℕ) (v : Fin d → BitVec 32) (f : (V1 N).Idx → BitVec 32) (j : (V1 N).Idx) :
    (l.foldl (fun g k => fun j : (V1 N).Idx => if (j 0).val = ix k then g j + v k else g j) f) j
      = f j + (l.map fun k => if ix k = (j 0).val then v k else 0).sum := by
  induction l generalizing f with
  | nil => simp
  | cons k l ih =>
    rw [List.foldl_cons, ih, List.map_cons, List.sum_cons]
    by_cases h : (j 0).val = ix k
    · rw [if_pos h, if_pos h.symm, add_assoc]
    · rw [if_neg h, if_neg (fun e => h e.symm), zero_add]

/-- The accumulating store, element by element. -/
theorem storeIdx_add {N : ℕ} (f : (V1 N).Idx → BitVec 32) (ix : IVec (V1 16) 32) (v : (V1 16).Idx → BitVec 32)
    (h : ∀ a x, ((![ix] : Fin 1 → IVec (V1 16) 32) a x).toNat < (V1 N).size a) (j : (V1 N).Idx) :
    storeIdx (F := F) (s := V1 N) (e := .i32) f ![ix] v (fun _ => 1#1) true h j
      = (f j + ∑ k : Fin 16, if (ix (at1 k.val)).toNat = (j 0).val then v (at1 k.val) else 0 : BitVec 32) := by
  have hl : ∀ k : Fin 16, (Shape.ofLane (d := ![16]) k) = at1 k.val := fun k => eq_at1 _ _ rfl
  have := foldl_add (N := N) (List.finRange 16) (fun k => (ix (at1 k.val)).toNat) (fun k => v (at1 k.val)) f j
  rw [← List.sum_ofFn, List.ofFn_eq_map, ← this]
  unfold storeIdx
  refine congrFun (congrArg (fun F => List.foldl F f (List.finRange 16)) ?_) j
  funext g k j
  have hk : Shape.ofLane (d := ![16]) k = at1 k.val := hl k
  dsimp only
  rw [if_pos (show (1#1 : BitVec 1) = 1 from rfl)]
  rw [if_pos (show true = true from rfl)]
  rw [hk]
  by_cases hj : (j 0).val = (ix (at1 k.val)).toNat
  · have e : idxAt (s := V1 N) (t := V1 16) ![ix] h (at1 k.val) = j := by
      funext a; obtain rfl : a = 0 := Subsingleton.elim _ _
      exact Fin.ext hj.symm
    rw [e, if_pos (fun _ => rfl), if_pos hj]; rfl
  · rw [if_neg hj, if_neg]
    intro hc; exact hj (hc 0)

end Cert.Proof.Add

end
-- ==== Proof.Words.lean ====
/-
  The words the scatter kernel adds: a variable's bit in the packed table (or its complement), and what one entry of an
  adjacency list contributes to a clause's count.
-/
module

public import proofs.«01_k».proof.Proof.Add

@[expose] public section

noncomputable section

namespace Cert.Proof.Words

open Idealize.ShloMosaic Cert.Proof.Add

/-- Variable `v`'s bit in the packed table: word `v % 3200` shifted down by `v / 3200`, its lowest bit. -/
def bit (tbl : (V1 3200).Idx → BitVec 32) (v : BitVec 32) : BitVec 32 :=
  IntOp.andi (IntOp.shrui .vector (tbl (at1 (IntOp.remsi .vector v 3200#32).toNat)) (IntOp.divsi .vector v 3200#32)) 1#32

/-- Its complement. -/
def nbit (tbl : (V1 3200).Idx → BitVec 32) (v : BitVec 32) : BitVec 32 := IntOp.subi 1#32 (bit tbl v)

/-- What entry `e` of the flattened adjacency list (clause ids, then variable ids) adds to clause `c`'s count. -/
def term (lit : BitVec 32 → BitVec 32) (adj : (V1 6400000).Idx → BitVec 32) (c e : ℕ) : BitVec 32 :=
  if (adj (at1 e)).toNat = c then lit (adj (at1 (3200000 + e))) else 0

/-- What worker `w` counts for clause `c`: its 100000 entries of the positive list, each adding the variable's bit, and
    its 100000 of the negative list, each adding the complement. -/
def count (tbl : (V1 3200).Idx → BitVec 32) (pos neg : (V1 6400000).Idx → BitVec 32) (w c : ℕ) : BitVec 32 :=
  (∑ e ∈ Finset.range 100000, term (bit tbl) pos c (100000 * w + e)) + ∑ e ∈ Finset.range 100000, term (nbit tbl) neg c (100000 * w + e)

/-- The remainder of a word below 100000 by 3200, as a number. -/
theorem remsi_toNat {v : BitVec 32} (h : v.toNat < 100000) : (IntOp.remsi .vector v 3200#32).toNat = v.toNat % 3200 := by
  have hc : ¬ IntOp.SDivCorner v 3200#32 := by
    rintro (h | ⟨-, h⟩) <;> exact absurd h (by decide)
  unfold IntOp.remsi
  rw [if_neg hc, BitVec.srem_eq, show v.msb = false from by rw [BitVec.msb_eq_false_iff_two_mul_lt]; omega, show (3200#32 : BitVec 32).msb = false by decide]
  simp

/-- The quotient likewise. -/
theorem divsi_toNat {v : BitVec 32} (h : v.toNat < 100000) : (IntOp.divsi .vector v 3200#32).toNat = v.toNat / 3200 := by
  have hc : ¬ IntOp.SDivCorner v 3200#32 := by
    rintro (h | ⟨-, h⟩) <;> exact absurd h (by decide)
  unfold IntOp.divsi
  rw [if_neg hc, BitVec.sdiv_eq, show v.msb = false from by rw [BitVec.msb_eq_false_iff_two_mul_lt]; omega, show (3200#32 : BitVec 32).msb = false by decide]
  simp

theorem remsi_lt {v : BitVec 32} (h : v.toNat < 100000) : (IntOp.remsi .vector v 3200#32).toNat < 3200 := by
  rw [remsi_toNat h]; exact Nat.mod_lt _ (by decide)

end Cert.Proof.Words

end
-- ==== Proof.Ranges.lean ====
/-
  What the preconditions say of the arguments, element by element. `indices`: every word of the two index arrays is, read
  as a natural number, below 100000. `ranges`: that, and every entry of the first argument lies in [0, 1).
-/
module

public import Idealize.ShloMosaic.Lib.ReduceAll
public import proofs.«01_k».proof.Pre_indices
public import proofs.«01_k».proof.Proof.Gen.Pre_ranges

@[expose] public section

set_option maxRecDepth 65536

noncomputable section

namespace Cert.Proof

open Cert.Pre_ranges Cert.Pre_ranges.Gen Idealize.ShloMosaic

variable {F : FTy → Type} [FloatOps F]

theorem andi_one (p q : BitVec 1) : IntOp.andi p q = 1#1 ↔ p = 1#1 ∧ q = 1#1 := by
  revert p q; decide

/-- A word that compares at least 0 and below 100000, signed, is below 100000 as a natural number. -/
theorem word_lt (v : BitVec 32) (h : IntOp.andi (IntOp.cmpi .sge v 0#32) (IntOp.cmpi .slt v 100000#32) = 1#1) : v.toNat < 100000 := by
  have ofBool_one (p : Bool) : (BitVec.ofBool p = 1#1) ↔ p = true := by cases p <;> decide
  rw [andi_one] at h
  simp only [IntOp.cmpi, ofBool_one, BitVec.sle_eq_decide, BitVec.slt_eq_decide, decide_eq_true_eq, BitVec.toInt_eq_toNat_cond,
    BitVec.toNat_ofNat, Nat.reducePow, Nat.reduceMod] at h
  omega

/-- The side conditions that `indices` states. -/
instance indices_facts : Cert.Pre_indices.Facts where
  bcast_S_S2x3200000 := by decide
  reducesTo_S2x3200000_S_d0_1 := by decide
  h_S_ := by decide

/-- The precondition `indices`, read element by element. -/
theorem indices_elements (x : FVec F S100000 .f32) (a b : IVec S2x3200000 32) (h : Cert.Pre_indices.fn (F := F) x a b = fun _ => 1#1) :
    (∀ i, (a i).toNat < 100000) ∧ (∀ i, (b i).toNat < 100000) := by
  have e := congrFun h (fun k => k.elim0)
  simp only [Cert.Pre_indices.fn, andi] at e
  rw [andi_one] at e
  obtain ⟨ea, eb⟩ := e
  haveI : Subsingleton S_.Idx := ⟨fun u v => funext fun k => k.elim0⟩
  refine ⟨fun i => ?_, fun i => ?_⟩
  · exact word_lt _ ((Host.reduce_andi_all _ _ _ _ _ ea) i)
  · exact word_lt _ ((Host.reduce_andi_all _ _ _ _ _ eb) i)

/-- The precondition `ranges`, read element by element. -/
theorem ranges_elements (x : FVec F S100000 .f32) (a b : IVec S2x3200000 32) (h : fn (F := F) x a b = fun _ => 1#1) :
    (∀ i, FloatOps.cmpf .oge (x i) (FloatOps.ofBits .f32 0x00000000#32) = 1#1 ∧ FloatOps.cmpf .olt (x i) (FloatOps.ofBits .f32 0x3F800000#32) = 1#1) ∧ (∀ i, (a i).toNat < 100000) ∧ (∀ i, (b i).toNat < 100000) := by
  have e := congrFun h (fun k => k.elim0)
  simp only [fn, fn_part1, andi] at e
  rw [andi_one, andi_one] at e
  obtain ⟨⟨ex, ea⟩, eb⟩ := e
  haveI : Subsingleton S_.Idx := ⟨fun u v => funext fun k => k.elim0⟩
  refine ⟨?_, ?_, ?_⟩
  · intro i
    exact (andi_one _ _).mp ((Host.reduce_andi_all _ _ _ _ _ ex) i)
  · intro i
    exact word_lt _ ((Host.reduce_andi_all _ _ _ _ _ ea) i)
  · intro i
    exact word_lt _ ((Host.reduce_andi_all _ _ _ _ _ eb) i)

end Cert.Proof

end
-- ==== Proof.BaseIdeal.lean ====
/-
  The kernel's program as the SparseCore launch theorem sees it, and the resource algebra of its proof: the launch
  handshakes' ghost state, the two TensorCore pipelines' ghost state, and the counters the local copies take their
  tokens from.
-/
module

public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.OfKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program the TensorCore runs: the kernels' and the pipelines' entries. -/
abbrev ΛP : Labels := Pipeline.Sig Λ₀ (Fin 2) fun p => (pcfgs (F := F) p).Adm
/-- The SparseCore configuration: one call. -/
abbrev K : SparseCore.Cfg τ sig (ΛP (F := F)) 1 := sc (F := F)
/-- The body table under the SparseCore's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's layout facts. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' algebra, -/
abbrev UH : Type := URounds (GSem nD τ sig) ℕ
/-- the pipelines', beside the counters of the local copies, -/
abbrev UP : Type := UR sig nD τ × Counters
/-- and the whole. -/
abbrev UU : Type := UH × UP

/-- The machine's algebra of this proof. -/
abbrev MM (F : FTy → Type) : Type := MT nD τ sig (HIx 1) (Elt F) ℕ UU ℕ

/-- The handshakes' place in it, -/
abbrev EH : Emb UH (MM F) := embL
/-- and the pipelines'. -/
def EP : Emb (UR sig nD τ) (MM F) := (Emb.inl : Emb (UR sig nD τ) UP).trans embR

instance EP_landsIn : (EP : Emb (UR sig nD τ) (MM F)).LandsIn (upEmb : UEmb _ (MM F)) := by unfold EP; infer_instance

end Cert.Proof.OfKernelIdeal

end
-- ==== Proof.TileIdeal.lean ====
/-
  The scatter kernel on one vector subcore.
-/
module

public import proofs.«01_k».proof.Proof.BaseIdeal
public import proofs.«01_k».proof.Proof.Words

@[expose] public section

noncomputable section

namespace Cert.Proof.OfKernelIdeal

open Cert.KernelIdeal Cert.KernelIdeal.Gen Cert.Proof.Add Cert.Proof.Words

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The packed table, the two flattened adjacency lists and the counts, as a vector subcore names them; -/
abbrev tblV : Memref sig .scVector .hbm S3200 .i32 := Memref.whole main_v3_scv
abbrev posV : Memref sig .scVector .hbm S6400000 .i32 := Memref.whole main_v4_scv
abbrev negV : Memref sig .scVector .hbm S6400000 .i32 := Memref.whole main_v5_scv
abbrev outV : Memref sig .scVector .hbm S32x102400 .i32 := Memref.whole main_v6_scv
/-- and its scratch: the table, the counts, a chunk of clause ids, a chunk of variable ids. -/
abbrev sT : Memref sig .scVector .vmem S3200 .i32 := Memref.whole cc1_scratch0
abbrev sA : Memref sig .scVector .vmem S102400 .i32 := Memref.whole cc1_scratch1
abbrev sC : Memref sig .scVector .vmem S4000 .i32 := Memref.whole cc1_scratch2
abbrev sV : Memref sig .scVector .vmem S4000 .i32 := Memref.whole cc1_scratch3

section Tile

variable (d : Dev nD) (L : grid1.Coords)

abbrev cV (L : grid1.Coords) : Fin τ.nSC := (L 0).castLE hcore1
abbrev jV (L : grid1.Coords) : Fin τ.nSub := (L 1).castLE hsub1
/-- The vector subcore at coordinates `L`. -/
abbrev thr : Thread nD τ := V d (cV L) (jV L)

/-- A memref's buffer held whole at `f` on that subcore. -/
abbrev pt {sp : Space} {S : Shape} {e : EltTy} (M : Memref sig .scVector sp S e) (f : Buf (Elt F) (M.view.loc (thr d L))) : sProp (MM F) :=
  M.view.loc (thr d L) ↦{fullShare} f

/-- The counts held whole, as the indexed store takes them. -/
theorem pts_sA (f : Buf (Elt F) ((sA : Memref sig .scVector .vmem S102400 .i32).view.loc (thr d L))) :
    (((sA : Memref sig .scVector .vmem S102400 .i32).access (.whole S102400)).loc (thr d L)
        ↦[((sA : Memref sig .scVector .vmem S102400 .i32).access (.whole S102400)).set]{fullShare} f : sProp (MM F)) = pt d L sA f := by
  rw [show ((sA : Memref sig .scVector .vmem S102400 .i32).access (.whole S102400)).set = Finset.univ from Memref.set_access_whole (cc1_scratch1 : Ref sig .scVector)]

/-- The accumulating store over the counts as the program reads them. -/
theorem storeIdx_sA (gA : S102400.Idx → BitVec 32) (ix : IVec S16 32) (v : S16.Idx → BitVec 32)
    (h : ∀ a x, ((![ix] : Fin 1 → IVec S16 32) a x).toNat < S102400.size a) (j : S102400.Idx) :
    storeIdx (F := F) (e := .i32) (View.read (Elt F) ((sA : Memref sig .scVector .vmem S102400 .i32).access (Rect.whole S102400)) gA) ![ix] v (fun _ => 1#1) true h j
      = (gA j + ∑ k : Fin 16, if (ix (at1 k.val)).toNat = (j 0).val then v (at1 k.val) else 0 : BitVec 32) := by
  rw [show View.read (Elt F) ((sA : Memref sig .scVector .vmem S102400 .i32).access (Rect.whole S102400)) gA = gA from
    Memref.read_access_whole (Elt F) (cc1_scratch1 : Ref sig .scVector) gA]
  exact storeIdx_add (F := F) (N := 102400) gA ix v h j

/-- A lane of the words the positive trips add. -/
theorem lane_bit (gT : S3200.Idx → BitVec 32) (v : S16.Idx → BitVec 32)
    (h : ∀ a x, ((![k1_pay2 (F := F) v] : Fin 1 → IVec S16 32) a x).toNat < S3200.size a) (x : S16.Idx) :
    k1_pay3 (F := F) v (loadIdx (F := F) (e := .i32) (View.read (Elt F) ((sT : Memref sig .scVector .vmem S3200 .i32).access (Rect.whole S3200)) gT) ![k1_pay2 (F := F) v] h) x
      = bit gT (v x) := by
  rw [show View.read (Elt F) ((sT : Memref sig .scVector .vmem S3200 .i32).access (Rect.whole S3200)) gT = gT from
    Memref.read_access_whole (Elt F) (cc1_scratch0 : Ref sig .scVector) gT]
  have e : idxAt (s := S3200) (t := S16) ![k1_pay2 (F := F) v] h x = at1 (IntOp.remsi .vector (v x) 3200#32).toNat := eq_at1 _ _ rfl
  unfold bit
  rw [← e]
  rfl

/-- One inner trip over the positive list. -/
theorem t3_step (t : Fin k1_t3_loop.trips) (z : BitVec 32)
    (gT : S3200.Idx → BitVec 32) (gA : S102400.Idx → BitVec 32) (gC gV : S4000.Idx → BitVec 32)
    (hC : ∀ x, (gC x).toNat < 100000) (hV : ∀ x, (gV x).toNat < 100000) :
    iprop(pt (F := F) d L sT gT ∗ pt d L sA gA ∗ pt d L sC gC ∗ pt d L sV gV)
      ⊢ wp frame (wpE (defs₀ (F := F)) 𝒱₀ (thr d L) none) Set.univ
          (k1_t3_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5 t z)
          fun _ => iprop(pt (F := F) d L sT gT ∗ (∃ g : S102400.Idx → BitVec 32,
              ⌜∀ j : S102400.Idx, g j = gA j + ∑ k : Fin 16,
                if (gC (at1 (16 * t.val + k.val))).toNat = (j 0).val then bit gT (gV (at1 (16 * t.val + k.val))) else 0⌝ ∗ pt (F := F) d L sA g)
            ∗ pt (F := F) d L sC gC ∗ pt (F := F) d L sV gV) := by
  have hlane : ∀ (x : S16.Idx), (Rect.unit (s := S4000) (k1_off4 t) S16.size (k1_off4_inb t)).toLoadRect.idx x = at1 (16 * t.val + (x 0).val) := by
    intro x
    refine eq_at1 _ _ ?_
    rw [LoadRect.idx_apply]
    show k1_off4 t 0 + 1 * (x 0).val = _
    rw [k1_off4_eq, one_mul]; rfl
  have hrC : View.readAt (Elt F) (sC : Memref sig .scVector .vmem S4000 .i32).view (Rect.unit (s := S4000) (k1_off4 t) S16.size (k1_off4_inb t)).toLoadRect gC
      = fun x : S16.Idx => gC (at1 (16 * t.val + (x 0).val)) := by
    funext x
    simp only [View.readAt_apply, Memref.view_whole, View.read_whole, hlane]
  have hrV : View.readAt (Elt F) (sV : Memref sig .scVector .vmem S4000 .i32).view (Rect.unit (s := S4000) (k1_off4 t) S16.size (k1_off4_inb t)).toLoadRect gV
      = fun x : S16.Idx => gV (at1 (16 * t.val + (x 0).val)) := by
    funext x
    simp only [View.readAt_apply, Memref.view_whole, View.read_whole, hlane]
  have h2 : k1_chk2 (fun x : S16.Idx => gC (at1 (16 * t.val + (x 0).val))) := by
    intro a x
    obtain rfl : a = 0 := Subsingleton.elim _ _
    exact lt_of_lt_of_le (hC _) (by decide)
  have h1 : k1_chk1 (k1_pay2 (F := F) (fun x : S16.Idx => gV (at1 (16 * t.val + (x 0).val)))) := by
    intro a x
    obtain rfl : a = 0 := Subsingleton.elim _ _
    exact remsi_lt (hV _)
  unfold k1_t3_body
  iintro ⟨HT, HA, HC, HV⟩
  sl_exec
  iapply (SparseCore.wp_vectorLoadIdx 𝒱₀ (thr d L) none Set.univ (base := (sT : Memref sig .scVector .vmem S3200 .i32)) (S := Finset.univ) (Finset.subset_univ _)) $$ HT; iintro HT
  ihave HA := (Entails.of_eq (pts_sA d L _).symm) $$ HA
  iapply (SparseCore.wp_vectorStoreIdx 𝒱₀ (thr d L) none Set.univ (base := (sA : Memref sig .scVector .vmem S102400 .i32))) $$ HA; iintro HA
  sl_exec
  sl_step
  isplitl [HT]; · iexact HT
  isplitl [HA]
  · iexists _; isplitr; swap
    · iapply (Entails.of_eq (pts_sA d L _)); iexact HA
    · ipureintro; intro j
      refine (congrFun (Memref.write_access_whole_univ (Elt F) (cc1_scratch1 : Ref sig .scVector) _ _) j).trans ?_
      refine (storeIdx_sA gA _ _ h2 j).trans ?_
      refine congrArg (gA j + ·) (Finset.sum_congr rfl fun k _ => ?_)
      have hk : ((at1 k.val : S16.Idx) 0).val = k.val := at1_val k.isLt 0
      rw [hk]
      refine if_congr Iff.rfl ?_ rfl
      refine (lane_bit gT _ _ (at1 k.val)).trans ?_
      rw [hk]
  isplitl [HC]; · iexact HC
  iexact HV

/-- The inner loop over one chunk of the positive list. -/
theorem t3_loop (z : BitVec 32)
    (gT : S3200.Idx → BitVec 32) (gA : S102400.Idx → BitVec 32) (gC gV : S4000.Idx → BitVec 32)
    (hC : ∀ x, (gC x).toNat < 100000) (hV : ∀ x, (gV x).toNat < 100000) :
    iprop(pt (F := F) d L sT gT ∗ pt d L sA gA ∗ pt d L sC gC ∗ pt d L sV gV)
      ⊢ wp frame (wpE (defs₀ (F := F)) 𝒱₀ (thr d L) none) Set.univ
          (Scf.Loop.for k1_t3_loop k1_t3_ok z
          (k1_t3_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5))
          fun _ => iprop(pt (F := F) d L sT gT ∗ (∃ g : S102400.Idx → BitVec 32,
              ⌜∀ j : S102400.Idx, g j = gA j + ∑ e ∈ Finset.range 4000,
                if (gC (at1 e)).toNat = (j 0).val then bit gT (gV (at1 e)) else 0⌝ ∗ pt (F := F) d L sA g)
            ∗ pt (F := F) d L sC gC ∗ pt (F := F) d L sV gV) := by
  iintro ⟨HT, HA, HC, HV⟩
  sl_for (fun n _ => iprop(pt (F := F) d L sT gT ∗ (∃ g : S102400.Idx → BitVec 32,
              ⌜∀ j : S102400.Idx, g j = gA j + ∑ e ∈ Finset.range (16 * n),
                if (gC (at1 e)).toNat = (j 0).val then bit gT (gV (at1 e)) else 0⌝ ∗ pt (F := F) d L sA g)
            ∗ pt (F := F) d L sC gC ∗ pt (F := F) d L sV gV)) $$ [HT HA HC HV]
  case region =>
    intro k z
    iintro ⟨HT, ⟨%g, %hg, HA⟩, HC, HV⟩
    iapply (wp_mono frame _ _ (Q := fun _ => iprop(pt (F := F) d L sT gT ∗ (∃ g' : S102400.Idx → BitVec 32,
              ⌜∀ j : S102400.Idx, g' j = g j + ∑ e : Fin 16,
                if (gC (at1 (16 * k.val + e.val))).toNat = (j 0).val then bit gT (gV (at1 (16 * k.val + e.val))) else 0⌝ ∗ pt (F := F) d L sA g')
            ∗ pt (F := F) d L sC gC ∗ pt (F := F) d L sV gV)) ?_)
    rotate_left
    · iapply (t3_step d L k z gT g gC gV hC hV); iframe
    · intro _
      iintro ⟨HT, ⟨%g', %hg', HA⟩, HC, HV⟩
      isplitl [HT]; · iexact HT
      isplitl [HA]
      · iexists g'; isplitr
        · ipureintro; intro j
          rw [hg', hg, add_assoc, show 16 * (k.val + 1) = 16 * k.val + 16 from rfl, Finset.sum_range_add, Finset.sum_range (n := 16)]
        · iexact HA
      isplitl [HC]; · iexact HC
      iexact HV
  · isplitl [HT HA HC HV]
    · isplitl [HT]; · iexact HT
      isplitl [HA]
      · iexists gA; isplitr
        · ipureintro; intro j; rw [Nat.mul_zero, Finset.sum_range_zero, add_zero]
        · iexact HA
      isplitl [HC]; · iexact HC
      iexact HV
    · iintro %_ H
      rw [show 16 * Scf.trips k1_t3_loop.lb k1_t3_loop.ub k1_t3_loop.st = 4000 by decide]
      iexact H

/-- The first entry of the subcore's share of an adjacency list. -/
abbrev base (L : grid1.Coords) : ℕ := 200000 * (L 1).val + 100000 * (L 0).val

/-- The semaphore of one scoped copy, as a cell of the subcore. -/
abbrev cell (s : DmaSems sig S_) : GSem nD τ sig := (thr d L, .dma s.sem)

/-- What the outer loop over the positive list holds before its `n`-th chunk: the list at a share, the table, the counts
    (what they were plus what the chunks so far add), both chunk buffers, the copies' semaphores and what the subcore
    owes. -/
def posInv (q : PosShare TreeShare) (adj : S6400000.Idx → BitVec 32) (gT : S3200.Idx → BitVec 32) (gA : S102400.Idx → BitVec 32)
    (O : CellTallies nD τ sig (HIx 1)) (W : Waits sig (HIx 1)) (n : ℕ) : sProp (MM F) :=
  iprop(Transfers.MayWaits (thr d L) none O
    ∗ ((posV : Memref sig .scVector .hbm S6400000 .i32).view.loc (thr d L) ↦{q} adj)
    ∗ pt (F := F) d L sT gT
    ∗ (∃ g : S102400.Idx → BitVec 32,
        ⌜∀ j : S102400.Idx, g j = gA j + ∑ e ∈ Finset.range (4000 * n), term (bit gT) adj (j 0).val (base L + e)⌝ ∗ pt (F := F) d L sA g)
    ∗ (∃ g, pt (F := F) d L sC g) ∗ (∃ g, pt (F := F) d L sV g)
    ∗ semVal (cell d L cc1_scoped1) 0 ∗ semVal (cell d L cc1_scoped2) 0
    ∗ ∃ W', ⌜∀ p ∈ W', p ∈ W ∨ p.2 = none⌝ ∗ owes (thr d L) O W')

/-- One chunk of the positive list. -/
theorem t2_step (t : Fin k1_t2_loop.trips) (z : BitVec 32) (q : PosShare TreeShare) (adj : S6400000.Idx → BitVec 32)
    (gT : S3200.Idx → BitVec 32) (gA : S102400.Idx → BitVec 32) (O : CellTallies nD τ sig (HIx 1)) (W : Waits sig (HIx 1))
    (hadj : ∀ x, (adj x).toNat < 100000) :
    posInv (F := F) d L q adj gT gA O W t.val
      ⊢ wp frame (wpE (defs₀ (F := F)) 𝒱₀ (thr d L) none) Set.univ
          (k1_t2_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5 t z)
          fun _ => posInv (F := F) d L q adj gT gA O W (t.val + 1) := by
  unfold k1_t2_body posInv
  iintro ⟨Hmw, Hadj, HT, ⟨%g, %hg, HA⟩, ⟨%gC, HC⟩, ⟨%gV, HV⟩, H1, H2, %W', %hW', HO⟩
  sl_exec (disch := exact View.amount_pos _ _ (show 0 < S4000.numel by decide))
  have eC : View.write (Elt F) (sC : Memref sig .scVector .vmem S4000 .i32).view gC (t2_step.sl.dma0 (F := F) L t adj) Finset.univ
      = fun x : S4000.Idx => adj (at1 (base L + 4000 * t.val + (x 0).val)) := by
    refine (View.write_whole_univ _ _ _).trans (funext fun x => ?_)
    unfold t2_step.sl.dma0
    refine (View.read_apply _ _).trans ?_
    refine congrArg adj (eq_at1 _ _ ?_)
    show k1_off2 L t 0 + 1 * (x 0).val = _
    rw [k1_off2_eq, one_mul]; rfl
  have eV : View.write (Elt F) (sV : Memref sig .scVector .vmem S4000 .i32).view gV (t2_step.sl.dma0_1 (F := F) L t adj) Finset.univ
      = fun x : S4000.Idx => adj (at1 (3200000 + (base L + 4000 * t.val + (x 0).val))) := by
    refine (View.write_whole_univ _ _ _).trans (funext fun x => ?_)
    unfold t2_step.sl.dma0_1
    refine (View.read_apply _ _).trans ?_
    refine congrArg adj (eq_at1 _ _ ?_)
    show k1_off3 L t 0 + 1 * (x 0).val = _
    rw [k1_off3_eq, one_mul]
    show 200000 * (L 1).val + 100000 * (L 0).val + 4000 * t.val + 3200000 + (x 0).val = _
    unfold base; omega
  rw [eC, eV]
  rw [wp_bind]
  iapply (wp_wand_r frame _ _ (Q := fun _ => _))
  isplitl [HT HA HC HV]
  · iapply (t3_loop d L 0#32 gT g _ _ (fun x => hadj _) (fun x => hadj _))
    iframe
  iintro %_ ⟨HT, ⟨%g', %hg', HA⟩, HC, HV⟩
  sl_step
  isplitl [Hmw]; · iexact Hmw
  isplitl [Hadj]; · iexact Hadj
  isplitl [HT]; · iexact HT
  isplitl [HA]
  · iexists g'; isplitr
    · ipureintro; intro j
      have hs : ∀ e ∈ Finset.range 4000,
          (if (adj (at1 (base L + 4000 * t.val + ((at1 e : S4000.Idx) 0).val))).toNat = (j 0).val
            then bit gT (adj (at1 (3200000 + (base L + 4000 * t.val + ((at1 e : S4000.Idx) 0).val)))) else 0)
            = term (bit gT) adj (j 0).val (base L + (4000 * t.val + e)) := by
        intro e he
        have he' : ((at1 e : S4000.Idx) 0).val = e := at1_val (Finset.mem_range.1 he) 0
        rw [he', Nat.add_assoc (base L)]; rfl
      rw [hg' j, Finset.sum_congr rfl hs, hg j, add_assoc, Nat.mul_succ, Finset.sum_range_add]
    · iexact HA
  isplitl [HC]; · iexists _; iexact HC
  isplitl [HV]; · iexists _; iexact HV
  isplitl [H1]; · iexact H1
  isplitl [H2]; · iexact H2
  iexists _; isplitr; swap
  · iexact HO
  · ipureintro; intro p hp
    rcases Finset.mem_insert.1 hp with rfl | hp
    · exact .inr rfl
    rcases Finset.mem_insert.1 hp with rfl | hp
    · exact .inr rfl
    exact hW' p hp

/-- The outer loop over the positive list. -/
theorem t2_loop (z : BitVec 32) (q : PosShare TreeShare) (adj : S6400000.Idx → BitVec 32)
    (gT : S3200.Idx → BitVec 32) (gA : S102400.Idx → BitVec 32) (O : CellTallies nD τ sig (HIx 1)) (W : Waits sig (HIx 1))
    (hadj : ∀ x, (adj x).toNat < 100000) :
    posInv (F := F) d L q adj gT gA O W 0
      ⊢ wp frame (wpE (defs₀ (F := F)) 𝒱₀ (thr d L) none) Set.univ
          (Scf.Loop.for k1_t2_loop k1_t2_ok z
          (k1_t2_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5))
          fun _ => posInv (F := F) d L q adj gT gA O W 25 := by
  iintro H
  sl_for (fun n _ => posInv (F := F) d L q adj gT gA O W n) $$ [H]
  case region => intro k z; exact t2_step d L k z q adj gT gA O W hadj
  · isplitl [H]
    · iexact H
    · iintro %_ H
      iapply (Entails.of_eq (congrArg (posInv (F := F) d L q adj gT gA O W) (show Scf.trips k1_t2_loop.lb k1_t2_loop.ub k1_t2_loop.st = 25 by decide)))
      iexact H

end Tile

end Cert.Proof.OfKernelIdeal

end
-- ==== Proof.TileNegIdeal.lean ====
/-
  The scatter kernel on one vector subcore: the pass over the negative list.
-/
module

public import proofs.«01_k».proof.Proof.TileIdeal

@[expose] public section

noncomputable section

namespace Cert.Proof.OfKernelIdeal

open Cert.KernelIdeal Cert.KernelIdeal.Gen Cert.Proof.Add Cert.Proof.Words

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Tile

variable (d : Dev nD) (L : grid1.Coords)

/-- A lane of the words the negative trips add. -/
theorem lane_nbit (gT : S3200.Idx → BitVec 32) (v : S16.Idx → BitVec 32)
    (h : ∀ a x, ((![k1_pay4 (F := F) v] : Fin 1 → IVec S16 32) a x).toNat < S3200.size a) (x : S16.Idx) :
    k1_pay5 (F := F) v (loadIdx (F := F) (e := .i32) (View.read (Elt F) ((sT : Memref sig .scVector .vmem S3200 .i32).access (Rect.whole S3200)) gT) ![k1_pay4 (F := F) v] h) x
      = nbit gT (v x) := by
  rw [show View.read (Elt F) ((sT : Memref sig .scVector .vmem S3200 .i32).access (Rect.whole S3200)) gT = gT from
    Memref.read_access_whole (Elt F) (cc1_scratch0 : Ref sig .scVector) gT]
  have e : idxAt (s := S3200) (t := S16) ![k1_pay4 (F := F) v] h x = at1 (IntOp.remsi .vector (v x) 3200#32).toNat := eq_at1 _ _ rfl
  unfold nbit bit
  rw [← e]
  rfl

/-- One inner trip over the negative list. -/
theorem t5_step (t : Fin k1_t5_loop.trips) (z : BitVec 32)
    (gT : S3200.Idx → BitVec 32) (gA : S102400.Idx → BitVec 32) (gC gV : S4000.Idx → BitVec 32)
    (hC : ∀ x, (gC x).toNat < 100000) (hV : ∀ x, (gV x).toNat < 100000) :
    iprop(pt (F := F) d L sT gT ∗ pt d L sA gA ∗ pt d L sC gC ∗ pt d L sV gV)
      ⊢ wp frame (wpE (defs₀ (F := F)) 𝒱₀ (thr d L) none) Set.univ
          (k1_t5_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5 t z)
          fun _ => iprop(pt (F := F) d L sT gT ∗ (∃ g : S102400.Idx → BitVec 32,
              ⌜∀ j : S102400.Idx, g j = gA j + ∑ k : Fin 16,
                if (gC (at1 (16 * t.val + k.val))).toNat = (j 0).val then nbit gT (gV (at1 (16 * t.val + k.val))) else 0⌝ ∗ pt (F := F) d L sA g)
            ∗ pt (F := F) d L sC gC ∗ pt (F := F) d L sV gV) := by
  have hlane : ∀ (x : S16.Idx), (Rect.unit (s := S4000) (k1_off7 t) S16.size (k1_off7_inb t)).toLoadRect.idx x = at1 (16 * t.val + (x 0).val) := by
    intro x
    refine eq_at1 _ _ ?_
    rw [LoadRect.idx_apply]
    show k1_off7 t 0 + 1 * (x 0).val = _
    rw [k1_off7_eq, one_mul]; rfl
  have hrC : View.readAt (Elt F) (sC : Memref sig .scVector .vmem S4000 .i32).view (Rect.unit (s := S4000) (k1_off7 t) S16.size (k1_off7_inb t)).toLoadRect gC
      = fun x : S16.Idx => gC (at1 (16 * t.val + (x 0).val)) := by
    funext x
    simp only [View.readAt_apply, Memref.view_whole, View.read_whole, hlane]
  have hrV : View.readAt (Elt F) (sV : Memref sig .scVector .vmem S4000 .i32).view (Rect.unit (s := S4000) (k1_off7 t) S16.size (k1_off7_inb t)).toLoadRect gV
      = fun x : S16.Idx => gV (at1 (16 * t.val + (x 0).val)) := by
    funext x
    simp only [View.readAt_apply, Memref.view_whole, View.read_whole, hlane]
  have h2 : k1_chk4 (fun x : S16.Idx => gC (at1 (16 * t.val + (x 0).val))) := by
    intro a x
    obtain rfl : a = 0 := Subsingleton.elim _ _
    exact lt_of_lt_of_le (hC _) (by decide)
  have h1 : k1_chk3 (k1_pay4 (F := F) (fun x : S16.Idx => gV (at1 (16 * t.val + (x 0).val)))) := by
    intro a x
    obtain rfl : a = 0 := Subsingleton.elim _ _
    exact remsi_lt (hV _)
  unfold k1_t5_body
  iintro ⟨HT, HA, HC, HV⟩
  sl_exec
  iapply (SparseCore.wp_vectorLoadIdx 𝒱₀ (thr d L) none Set.univ (base := (sT : Memref sig .scVector .vmem S3200 .i32)) (S := Finset.univ) (Finset.subset_univ _)) $$ HT; iintro HT
  ihave HA := (Entails.of_eq (pts_sA d L _).symm) $$ HA
  iapply (SparseCore.wp_vectorStoreIdx 𝒱₀ (thr d L) none Set.univ (base := (sA : Memref sig .scVector .vmem S102400 .i32))) $$ HA; iintro HA
  sl_exec
  sl_step
  isplitl [HT]; · iexact HT
  isplitl [HA]
  · iexists _; isplitr; swap
    · iapply (Entails.of_eq (pts_sA d L _)); iexact HA
    · ipureintro; intro j
      refine (congrFun (Memref.write_access_whole_univ (Elt F) (cc1_scratch1 : Ref sig .scVector) _ _) j).trans ?_
      refine (storeIdx_sA gA _ _ h2 j).trans ?_
      refine congrArg (gA j + ·) (Finset.sum_congr rfl fun k _ => ?_)
      have hk : ((at1 k.val : S16.Idx) 0).val = k.val := at1_val k.isLt 0
      rw [hk]
      refine if_congr Iff.rfl ?_ rfl
      refine (lane_nbit gT _ _ (at1 k.val)).trans ?_
      rw [hk]
  isplitl [HC]; · iexact HC
  iexact HV

/-- The inner loop over one chunk of the negative list. -/
theorem t5_loop (z : BitVec 32)
    (gT : S3200.Idx → BitVec 32) (gA : S102400.Idx → BitVec 32) (gC gV : S4000.Idx → BitVec 32)
    (hC : ∀ x, (gC x).toNat < 100000) (hV : ∀ x, (gV x).toNat < 100000) :
    iprop(pt (F := F) d L sT gT ∗ pt d L sA gA ∗ pt d L sC gC ∗ pt d L sV gV)
      ⊢ wp frame (wpE (defs₀ (F := F)) 𝒱₀ (thr d L) none) Set.univ
          (Scf.Loop.for k1_t5_loop k1_t5_ok z
          (k1_t5_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5))
          fun _ => iprop(pt (F := F) d L sT gT ∗ (∃ g : S102400.Idx → BitVec 32,
              ⌜∀ j : S102400.Idx, g j = gA j + ∑ e ∈ Finset.range 4000,
                if (gC (at1 e)).toNat = (j 0).val then nbit gT (gV (at1 e)) else 0⌝ ∗ pt (F := F) d L sA g)
            ∗ pt (F := F) d L sC gC ∗ pt (F := F) d L sV gV) := by
  iintro ⟨HT, HA, HC, HV⟩
  sl_for (fun n _ => iprop(pt (F := F) d L sT gT ∗ (∃ g : S102400.Idx → BitVec 32,
              ⌜∀ j : S102400.Idx, g j = gA j + ∑ e ∈ Finset.range (16 * n),
                if (gC (at1 e)).toNat = (j 0).val then nbit gT (gV (at1 e)) else 0⌝ ∗ pt (F := F) d L sA g)
            ∗ pt (F := F) d L sC gC ∗ pt (F := F) d L sV gV)) $$ [HT HA HC HV]
  case region =>
    intro k z
    iintro ⟨HT, ⟨%g, %hg, HA⟩, HC, HV⟩
    iapply (wp_mono frame _ _ (Q := fun _ => iprop(pt (F := F) d L sT gT ∗ (∃ g' : S102400.Idx → BitVec 32,
              ⌜∀ j : S102400.Idx, g' j = g j + ∑ e : Fin 16,
                if (gC (at1 (16 * k.val + e.val))).toNat = (j 0).val then nbit gT (gV (at1 (16 * k.val + e.val))) else 0⌝ ∗ pt (F := F) d L sA g')
            ∗ pt (F := F) d L sC gC ∗ pt (F := F) d L sV gV)) ?_)
    rotate_left
    · iapply (t5_step d L k z gT g gC gV hC hV); iframe
    · intro _
      iintro ⟨HT, ⟨%g', %hg', HA⟩, HC, HV⟩
      isplitl [HT]; · iexact HT
      isplitl [HA]
      · iexists g'; isplitr
        · ipureintro; intro j
          rw [hg', hg, add_assoc, show 16 * (k.val + 1) = 16 * k.val + 16 from rfl, Finset.sum_range_add, Finset.sum_range (n := 16)]
        · iexact HA
      isplitl [HC]; · iexact HC
      iexact HV
  · isplitl [HT HA HC HV]
    · isplitl [HT]; · iexact HT
      isplitl [HA]
      · iexists gA; isplitr
        · ipureintro; intro j; rw [Nat.mul_zero, Finset.sum_range_zero, add_zero]
        · iexact HA
      isplitl [HC]; · iexact HC
      iexact HV
    · iintro %_ H
      rw [show 16 * Scf.trips k1_t5_loop.lb k1_t5_loop.ub k1_t5_loop.st = 4000 by decide]
      iexact H

/-- What the outer loop over the negative list holds before its `n`-th chunk: the list at a share, the table, the counts
    (what they were plus what the chunks so far add), both chunk buffers, the copies' semaphores and what the subcore
    owes. -/
def negInv (q : PosShare TreeShare) (adj : S6400000.Idx → BitVec 32) (gT : S3200.Idx → BitVec 32) (gA : S102400.Idx → BitVec 32)
    (O : CellTallies nD τ sig (HIx 1)) (W : Waits sig (HIx 1)) (n : ℕ) : sProp (MM F) :=
  iprop(Transfers.MayWaits (thr d L) none O
    ∗ ((negV : Memref sig .scVector .hbm S6400000 .i32).view.loc (thr d L) ↦{q} adj)
    ∗ pt (F := F) d L sT gT
    ∗ (∃ g : S102400.Idx → BitVec 32,
        ⌜∀ j : S102400.Idx, g j = gA j + ∑ e ∈ Finset.range (4000 * n), term (nbit gT) adj (j 0).val (base L + e)⌝ ∗ pt (F := F) d L sA g)
    ∗ (∃ g, pt (F := F) d L sC g) ∗ (∃ g, pt (F := F) d L sV g)
    ∗ semVal (cell d L cc1_scoped3) 0 ∗ semVal (cell d L cc1_scoped4) 0
    ∗ ∃ W', ⌜∀ p ∈ W', p ∈ W ∨ p.2 = none⌝ ∗ owes (thr d L) O W')

/-- One chunk of the negative list. -/
theorem t4_step (t : Fin k1_t4_loop.trips) (z : BitVec 32) (q : PosShare TreeShare) (adj : S6400000.Idx → BitVec 32)
    (gT : S3200.Idx → BitVec 32) (gA : S102400.Idx → BitVec 32) (O : CellTallies nD τ sig (HIx 1)) (W : Waits sig (HIx 1))
    (hadj : ∀ x, (adj x).toNat < 100000) :
    negInv (F := F) d L q adj gT gA O W t.val
      ⊢ wp frame (wpE (defs₀ (F := F)) 𝒱₀ (thr d L) none) Set.univ
          (k1_t4_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5 t z)
          fun _ => negInv (F := F) d L q adj gT gA O W (t.val + 1) := by
  unfold k1_t4_body negInv
  iintro ⟨Hmw, Hadj, HT, ⟨%g, %hg, HA⟩, ⟨%gC, HC⟩, ⟨%gV, HV⟩, H1, H2, %W', %hW', HO⟩
  sl_exec (disch := exact View.amount_pos _ _ (show 0 < S4000.numel by decide))
  have eC : View.write (Elt F) (sC : Memref sig .scVector .vmem S4000 .i32).view gC (t4_step.sl.dma0 (F := F) L t adj) Finset.univ
      = fun x : S4000.Idx => adj (at1 (base L + 4000 * t.val + (x 0).val)) := by
    refine (View.write_whole_univ _ _ _).trans (funext fun x => ?_)
    unfold t4_step.sl.dma0
    refine (View.read_apply _ _).trans ?_
    refine congrArg adj (eq_at1 _ _ ?_)
    show k1_off5 L t 0 + 1 * (x 0).val = _
    rw [k1_off5_eq, one_mul]; rfl
  have eV : View.write (Elt F) (sV : Memref sig .scVector .vmem S4000 .i32).view gV (t4_step.sl.dma0_1 (F := F) L t adj) Finset.univ
      = fun x : S4000.Idx => adj (at1 (3200000 + (base L + 4000 * t.val + (x 0).val))) := by
    refine (View.write_whole_univ _ _ _).trans (funext fun x => ?_)
    unfold t4_step.sl.dma0_1
    refine (View.read_apply _ _).trans ?_
    refine congrArg adj (eq_at1 _ _ ?_)
    show k1_off6 L t 0 + 1 * (x 0).val = _
    rw [k1_off6_eq, one_mul]
    show 200000 * (L 1).val + 100000 * (L 0).val + 4000 * t.val + 3200000 + (x 0).val = _
    unfold base; omega
  rw [eC, eV]
  rw [wp_bind]
  iapply (wp_wand_r frame _ _ (Q := fun _ => _))
  isplitl [HT HA HC HV]
  · iapply (t5_loop d L 0#32 gT g _ _ (fun x => hadj _) (fun x => hadj _))
    iframe
  iintro %_ ⟨HT, ⟨%g', %hg', HA⟩, HC, HV⟩
  sl_step
  isplitl [Hmw]; · iexact Hmw
  isplitl [Hadj]; · iexact Hadj
  isplitl [HT]; · iexact HT
  isplitl [HA]
  · iexists g'; isplitr
    · ipureintro; intro j
      have hs : ∀ e ∈ Finset.range 4000,
          (if (adj (at1 (base L + 4000 * t.val + ((at1 e : S4000.Idx) 0).val))).toNat = (j 0).val
            then nbit gT (adj (at1 (3200000 + (base L + 4000 * t.val + ((at1 e : S4000.Idx) 0).val)))) else 0)
            = term (nbit gT) adj (j 0).val (base L + (4000 * t.val + e)) := by
        intro e he
        have he' : ((at1 e : S4000.Idx) 0).val = e := at1_val (Finset.mem_range.1 he) 0
        rw [he', Nat.add_assoc (base L)]; rfl
      rw [hg' j, Finset.sum_congr rfl hs, hg j, add_assoc, Nat.mul_succ, Finset.sum_range_add]
    · iexact HA
  isplitl [HC]; · iexists _; iexact HC
  isplitl [HV]; · iexists _; iexact HV
  isplitl [H1]; · iexact H1
  isplitl [H2]; · iexact H2
  iexists _; isplitr; swap
  · iexact HO
  · ipureintro; intro p hp
    rcases Finset.mem_insert.1 hp with rfl | hp
    · exact .inr rfl
    rcases Finset.mem_insert.1 hp with rfl | hp
    · exact .inr rfl
    exact hW' p hp

/-- The outer loop over the negative list. -/
theorem t4_loop (z : BitVec 32) (q : PosShare TreeShare) (adj : S6400000.Idx → BitVec 32)
    (gT : S3200.Idx → BitVec 32) (gA : S102400.Idx → BitVec 32) (O : CellTallies nD τ sig (HIx 1)) (W : Waits sig (HIx 1))
    (hadj : ∀ x, (adj x).toNat < 100000) :
    negInv (F := F) d L q adj gT gA O W 0
      ⊢ wp frame (wpE (defs₀ (F := F)) 𝒱₀ (thr d L) none) Set.univ
          (Scf.Loop.for k1_t4_loop k1_t4_ok z
          (k1_t4_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5))
          fun _ => negInv (F := F) d L q adj gT gA O W 25 := by
  iintro H
  sl_for (fun n _ => negInv (F := F) d L q adj gT gA O W n) $$ [H]
  case region => intro k z; exact t4_step d L k z q adj gT gA O W hadj
  · isplitl [H]
    · iexact H
    · iintro %_ H
      iapply (Entails.of_eq (congrArg (negInv (F := F) d L q adj gT gA O W) (show Scf.trips k1_t4_loop.lb k1_t4_loop.ub k1_t4_loop.st = 25 by decide)))
      iexact H

end Tile

end Cert.Proof.OfKernelIdeal

end
-- ==== Proof.RowsIdeal.lean ====
/-
  Positions of two-axis arrays, and the rows the scatter kernel's subcores write out.
-/
module

public import proofs.«01_k».proof.Proof.TileNegIdeal

@[expose] public section

noncomputable section

namespace Cert.Proof.OfKernelIdeal

open Cert.KernelIdeal Cert.KernelIdeal.Gen Cert.Proof.Add Cert.Proof.Words

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

section Rows

variable (d : Dev nD) (L : grid1.Coords)

/-- The number of the subcore at coordinates `L`. -/
abbrev wid (L : grid1.Coords) : ℕ := 2 * (L 1).val + (L 0).val

/-- The entries of one row of the counts. -/
def rowSet (w : ℕ) : Finset S32x102400.Idx := Finset.univ.filter fun i => (i 0).val = w

/-- The row the subcore writes out, as its copy names it. -/
abbrev outRow (L : grid1.Coords) : Memref sig .scVector .hbm S102400 .i32 :=
  ((outV : Memref sig .scVector .hbm S32x102400 .i32).slice (Rect.unit (s := S32x102400) (k1_off8 L) S1x102400.size (k1_off8_inb L)) (fun _ => rfl)).squeeze S102400
    squeezes_S1x102400_S102400

theorem outRow_emb (x : S102400.Idx) (a : Fin 2) : ((outRow L).view.emb x a).val = if a = 0 then wid L else (x 0).val := by
  have e : Shape.reshapeEquiv squeezes_S1x102400_S102400.numel_eq x = (fun | 0 => (⟨0, Nat.one_pos⟩ : Fin 1) | 1 => (x 0 : Fin 102400) : S1x102400.Idx) := by
    refine Shape.reshapeEquiv_eq_of_rowMajor _ ?_
    rw [Shape.rowMajor_val_two, Shape.rowMajor_val_one]
    show 0 * _ + (x 0).val = _
    omega
  show ((Rect.unit (s := S32x102400) (k1_off8 L) S1x102400.size (k1_off8_inb L)).emb (Shape.reshapeEquiv squeezes_S1x102400_S102400.numel_eq x) a).val = _
  rw [e]
  match a with
  | 0 =>
    show k1_off8 L 0 + 1 * 0 = wid L
    rw [k1_off8_eq]; rfl
  | 1 =>
    show k1_off8 L 1 + 1 * (x 0).val = (x 0).val
    rw [k1_off8_eq]
    show 0 + 1 * (x 0).val = (x 0).val
    omega

theorem outRow_set : (outRow L).view.set = rowSet (wid L) := by
  refine Finset.ext fun (i : S32x102400.Idx) => ?_
  unfold rowSet
  rw [Finset.mem_filter]
  constructor
  · intro h
    obtain ⟨x, -, rfl⟩ := Finset.mem_map.1 h
    exact ⟨Finset.mem_univ _, outRow_emb L x 0⟩
  · rintro ⟨-, h⟩
    refine Finset.mem_map.2 ⟨(at1 (N := 102400) (i 1).val : S102400.Idx), Finset.mem_univ _, ?_⟩
    have hv : ((at1 (N := 102400) (i 1).val : S102400.Idx) 0).val = (i 1).val := at1_val (N := 102400) (i 1).isLt 0
    funext a
    refine Fin.ext ((outRow_emb L _ a).trans ?_)
    match a with
    | 0 => exact h.symm
    | 1 => exact hv

/-- The row written out holds the counts copied to it. -/
theorem outRow_write (f : S32x102400.Idx → BitVec 32) (g : S102400.Idx → BitVec 32) (i : S32x102400.Idx) (hi : i ∈ rowSet (wid L)) :
    View.write (Elt F) (outRow L).view f g Finset.univ i = g (at1 (N := 102400) (i 1).val) := by
  rw [← outRow_set] at hi
  obtain ⟨x, -, rfl⟩ := Finset.mem_map.1 hi
  refine (View.write_emb_of_mem _ _ (Finset.mem_univ _)).trans ?_
  have h1 := outRow_emb L x 1
  exact congrArg g (eq_at1 (N := 102400) x _ h1.symm)

end Rows

end Cert.Proof.OfKernelIdeal

end
-- ==== Proof.BodyIdeal.lean ====
/-
  The scatter kernel's task on one vector subcore, whole: the table fetched, the counts zeroed, both lists added, the
  row of counts written out.
-/
module

public import proofs.«01_k».proof.Proof.RowsIdeal

@[expose] public section

noncomputable section

namespace Cert.Proof.OfKernelIdeal

open Cert.KernelIdeal Cert.KernelIdeal.Gen Cert.Proof.Add Cert.Proof.Words

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Tile

variable (d : Dev nD) (L : grid1.Coords)

/-- Sixteen zero words stored over the counts: an element is zero if it was or if the store covers it. -/
theorem zeros_at (t : Fin k1_t1_loop.trips) (gA : S102400.Idx → BitVec 32) (j : S102400.Idx)
    (h : gA j = 0 ∨ 16 * t.val ≤ (j 0).val) (hj : (j 0).val < 16 * (t.val + 1)) :
    View.write (Elt F) ((sA : Memref sig .scVector .vmem S102400 .i32).view.slice (Rect.unit (k1_off1 t) S16.size (k1_off1_inb t))) gA
      (k1_pay1 : S16.Idx → BitVec 32) Finset.univ j = (0 : BitVec 32) := by
  by_cases hm : j ∈ ((sA : Memref sig .scVector .vmem S102400 .i32).view.slice (Rect.unit (k1_off1 t) S16.size (k1_off1_inb t))).set
  · obtain ⟨x, -, rfl⟩ := Finset.mem_map.1 hm
    exact View.write_emb_of_mem _ _ (Finset.mem_univ _)
  · rw [View.write_of_not_mem _ _ _ (by rwa [View.setOn_univ])]
    rcases h with h | h
    · exact h
    · refine absurd (Finset.mem_map.2 ⟨(at1 (N := 16) ((j 0).val - 16 * t.val) : S16.Idx), Finset.mem_univ _, ?_⟩) hm
      have hv : ((at1 (N := 16) ((j 0).val - 16 * t.val) : S16.Idx) 0).val = (j 0).val - 16 * t.val := at1_val (N := 16) (by omega) 0
      funext a
      obtain rfl : a = 0 := Subsingleton.elim _ _
      refine Fin.ext ?_
      show k1_off1 t 0 + 1 * ((at1 (N := 16) ((j 0).val - 16 * t.val) : S16.Idx) 0).val = _
      rw [k1_off1_eq, hv]
      show 16 * t.val + _ = _
      omega

/-- One trip of the loop that zeroes the counts. -/
theorem t1_step (t : Fin k1_t1_loop.trips) (z : BitVec 32) (gA : S102400.Idx → BitVec 32) :
    pt (F := F) d L sA gA
      ⊢ wp frame (wpE (defs₀ (F := F)) 𝒱₀ (thr d L) none) Set.univ
          (k1_t1_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5 t z)
          fun _ => iprop(∃ g : S102400.Idx → BitVec 32,
              ⌜∀ j : S102400.Idx, (gA j = 0 ∨ 16 * t.val ≤ (j 0).val) → (j 0).val < 16 * (t.val + 1) → g j = 0⌝ ∗ pt (F := F) d L sA g) := by
  unfold k1_t1_body
  iintro HA
  sl_exec
  sl_step
  iexists _
  isplitr; swap
  · iexact HA
  · ipureintro; intro j h hj
    exact zeros_at (F := F) t gA j h hj

/-- The loop that zeroes the counts. -/
theorem t1_loop (z : BitVec 32) (gA : S102400.Idx → BitVec 32) :
    pt (F := F) d L sA gA
      ⊢ wp frame (wpE (defs₀ (F := F)) 𝒱₀ (thr d L) none) Set.univ
          (Scf.Loop.for k1_t1_loop k1_t1_ok z
          (k1_t1_body (F := F) L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5))
          fun _ => pt (F := F) d L sA (fun _ : S102400.Idx => (0 : BitVec 32)) := by
  iintro HA
  sl_for (fun n _ => iprop(∃ g : S102400.Idx → BitVec 32, ⌜∀ j : S102400.Idx, (j 0).val < 16 * n → g j = 0⌝ ∗ pt (F := F) d L sA g)) $$ [HA]
  case region =>
    intro k z
    iintro ⟨%g, %hg, HA⟩
    iapply (wp_mono frame _ _ (Q := fun _ => iprop(∃ g' : S102400.Idx → BitVec 32,
              ⌜∀ j : S102400.Idx, (g j = 0 ∨ 16 * k.val ≤ (j 0).val) → (j 0).val < 16 * (k.val + 1) → g' j = 0⌝ ∗ pt (F := F) d L sA g')) ?_)
    rotate_left
    · iapply (t1_step d L k z g); iexact HA
    · intro _
      iintro ⟨%g', %hg', HA⟩
      iexists g'; isplitr
      · ipureintro; intro j hj
        exact hg' j ((Nat.lt_or_ge (j 0).val (16 * k.val)).imp (hg j) id) hj
      · iexact HA
  · isplitl [HA]
    · iexists gA; isplitr
      · ipureintro; intro j hj; exact absurd hj (by omega)
      · iexact HA
    · iintro %_ ⟨%g, %hg, HA⟩
      have e : g = fun _ => (0 : BitVec 32) := funext fun j => hg j (by
        rw [show 16 * Scf.trips k1_t1_loop.lb k1_t1_loop.ub k1_t1_loop.st = 102400 by decide]; exact (j 0).isLt)
      subst e
      iexact HA

/-- What a subcore holds of its own, some of its cells or buffers named one by one. -/
theorem bigSep_list {ι : Type} [DecidableEq ι] (Φ : ι → sProp (MM F)) :
    ∀ (l : List ι) (A : Finset ι), l.Nodup → (∀ x ∈ l, x ∈ A) →
      bigSep A Φ = l.foldr (fun x R => iprop(Φ x ∗ R)) (bigSep (l.foldl Finset.erase A) Φ)
  | [], _, _, _ => rfl
  | x :: l, A, hl, hA => by
    rw [List.foldr_cons, List.foldl_cons, ← bigSep_list Φ l (A.erase x) (List.nodup_cons.1 hl).2
      (fun y hy => Finset.mem_erase.2 ⟨fun e => (List.nodup_cons.1 hl).1 (e ▸ hy), hA y (List.mem_cons_of_mem _ hy)⟩)]
    exact SparseCore.bigSep_erase' (hA x List.mem_cons_self)

/-- The kernel's scoped semaphores, -/
abbrev scopedList : List (DmaSems sig S_) := [cc1_scoped0, cc1_scoped1, cc1_scoped2, cc1_scoped3, cc1_scoped4, cc1_scoped5]

theorem ownSems0_V :
    (ownSems0 (thr d L) : sProp (MM F))
      = iprop(semVal (cell d L cc1_scoped0) 0 ∗ semVal (cell d L cc1_scoped1) 0 ∗ semVal (cell d L cc1_scoped2) 0
          ∗ semVal (cell d L cc1_scoped3) 0 ∗ semVal (cell d L cc1_scoped4) 0 ∗ semVal (cell d L cc1_scoped5) 0
          ∗ bigSep ((scopedList.map (cell d L)).foldl Finset.erase (ownCells (thr d L))) fun g => semVal g 0) := by
  refine bigSep_list (F := F) (fun g => semVal g 0) (scopedList.map (cell d L)) _ ?_ ?_
  · have h0 : (scopedList.map fun s => (SemLoc.dma s.sem : SemLoc sig)).Nodup := by decide
    have := h0.map (f := fun s => ((thr d L, s) : GSem nD τ sig)) (fun a b h => (Prod.mk.inj h).2)
    rwa [List.map_map] at this
  · intro g hg
    obtain ⟨s, hs, rfl⟩ := List.mem_map.1 hg
    refine mem_ownCells.mpr ⟨rfl, ?_⟩
    have : ∀ s ∈ scopedList, (SemLoc.dma s.sem : SemLoc sig).isScoped .scVector = true := by decide
    exact this s hs

/-- and its scratch buffers. -/
abbrev scratchList : List (Ref sig .scVector) := [cc1_scratch0, cc1_scratch1, cc1_scratch2, cc1_scratch3]

theorem ownBufs_V :
    (ownBufs (thr d L) : sProp (MM F))
      = iprop((∃ f, pt (F := F) d L sT f) ∗ (∃ f, pt (F := F) d L sA f) ∗ (∃ f, pt (F := F) d L sC f) ∗ (∃ f, pt (F := F) d L sV f)
          ∗ bigSep ((scratchList.map ((Proc.scVector (cV L) (jV L)).devRef)).foldl Finset.erase (ownRefs (τ := τ) (.scVector (cV L) (jV L))))
              fun b => iprop(∃ f, ((d, b) : Loc nD τ sig) ↦{fullShare} f)) := by
  refine bigSep_list (F := F) (fun b => iprop(∃ f, ((d, b) : Loc nD τ sig) ↦{fullShare} f)) (scratchList.map ((Proc.scVector (cV L) (jV L)).devRef)) _ ?_ ?_
  · exact (show scratchList.Nodup by decide).map (Proc.devRef_injective _)
  · intro b hb
    obtain ⟨r, hr, rfl⟩ := List.mem_map.1 hb
    refine SparseCore.Cfg.mem_ownRefs_of_owner ?_
    rcases List.mem_cons.1 hr with rfl | hr
    · rfl
    rcases List.mem_cons.1 hr with rfl | hr
    · rfl
    rcases List.mem_cons.1 hr with rfl | hr
    · rfl
    rcases List.mem_cons.1 hr with rfl | hr
    · rfl
    · exact absurd hr List.not_mem_nil

/-- The counts of every worker, as the array the kernel writes. -/
def counts (tbl : S3200.Idx → BitVec 32) (pos neg : S6400000.Idx → BitVec 32) : S32x102400.Idx → BitVec 32 :=
  fun i => Words.count tbl pos neg (i 0).val (i 1).val

/-- What the task on the vector subcore at `L` is handed and hands back: the table and both lists at a share, its row of
    the output. -/
abbrev tileRes (qt qp qn : PosShare TreeShare) (tbl : S3200.Idx → BitVec 32) (pos neg : S6400000.Idx → BitVec 32) (f : S32x102400.Idx → BitVec 32) :
    sProp (MM F) :=
  iprop(((tblV : Memref sig .scVector .hbm S3200 .i32).view.loc (thr d L) ↦{qt} tbl)
    ∗ ((posV : Memref sig .scVector .hbm S6400000 .i32).view.loc (thr d L) ↦{qp} pos)
    ∗ ((negV : Memref sig .scVector .hbm S6400000 .i32).view.loc (thr d L) ↦{qn} neg)
    ∗ ((outV : Memref sig .scVector .hbm S32x102400 .i32).view.loc (thr d L) ↦[rowSet (wid L)]{fullShare} f))

/-- The task on the vector subcore at `L`: from the table and both lists at any shares and its row of the output at
    anything, its row ends at its counts. -/
theorem tile_body (hF : (K (F := F)).Facts) (O : CellTallies nD τ sig (HIx 1)) (W : Waits sig (HIx 1)) (hO : ∀ g, O g none = 0)
    (qt qp qn : PosShare TreeShare) (tbl : S3200.Idx → BitVec 32) (pos neg : S6400000.Idx → BitVec 32) (f : S32x102400.Idx → BitVec 32)
    (hpos : ∀ x, (pos x).toNat < 100000) (hneg : ∀ x, (neg x).toNat < 100000) :
    iprop(levAts (K (F := F)).L (K (F := F)).lev ∗ tileRes (F := F) d L qt qp qn tbl pos neg f
        ∗ scopedBufs (thr d L) ∗ scopedSems0 (thr d L) ∗ owes (thr d L) O W)
      ⊢ wp frame (wpE (defs₀ (F := F)) 𝒱₀ (thr d L) none) Set.univ
          (cc1__scatter_kernel L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5)
          fun _ => iprop(tileRes (F := F) d L qt qp qn tbl pos neg (counts tbl pos neg)
            ∗ scopedBufs (thr d L) ∗ scopedSems0 (thr d L)
            ∗ ∃ W', ⌜∀ p ∈ W', p ∈ W ∨ p.2 = none⌝ ∗ owes (thr d L) O W') := by
  simp only [cc1__scatter_kernel_eq_skeleton]; unfold cc1__scatter_kernel_skel
  rw [(K (F := F)).scopedBufs_V hF d (cV L) (jV L), SparseCore.Cfg.scopedSems0_V (Val := Elt F) d (cV L) (jV L), ownSems0_V, ownBufs_V]
  unfold tileRes; rw [← outRow_set]
  iintro ⟨#Hlv, ⟨Ht, Hp, Hn, Ho⟩, ⟨⟨%g0, HT⟩, ⟨%g1, HA⟩, ⟨%g2, HC⟩, ⟨%g3, HV⟩, Hbufs⟩, ⟨H0, H1, H2, H3, H4, H5, Hsems⟩, HO⟩
  ihave Hmw := (show (levAts (K (F := F)).L (K (F := F)).lev : sProp (MM F)) ⊢ Transfers.MayWaits (thr d L) none O from
    (K (F := F)).mayWaits_none (thr := thr d L) hO) $$ Hlv
  sl_exec (disch := exact View.amount_pos _ _ (show 0 < S3200.numel by decide))
  have eT : View.write (Elt F) (sT : Memref sig .scVector .vmem S3200 .i32).view g0 (tile_body.sl.dma0 (F := F) tbl) Finset.univ = tbl :=
    View.write_whole_univ _ _ _
  rw [eT]
  -- the counts zeroed
  rw [wp_bind]
  iapply (wp_wand_r frame _ _ (Q := fun _ => _))
  isplitl [HA]
  · iapply (t1_loop d L 0#32 g1); iexact HA
  iintro %_ HA
  -- the positive list
  rw [wp_bind]
  iapply (wp_wand_r frame _ _ (Q := fun _ => _))
  isplitl [Hp HT HA HC HV H1 H2 HO]
  · iapply (t2_loop d L 0#32 qp pos tbl (fun _ => (0 : BitVec 32)) O W hpos)
    unfold posInv
    isplitr; · iexact Hmw
    isplitl [Hp]; · iexact Hp
    isplitl [HT]; · iexact HT
    isplitl [HA]
    · iexists _; isplitr; swap
      · iexact HA
      · ipureintro; intro j; rw [Nat.mul_zero, Finset.sum_range_zero, add_zero]
    isplitl [HC]; · iexists _; iexact HC
    isplitl [HV]; · iexists _; iexact HV
    isplitl [H1]; · iexact H1
    isplitl [H2]; · iexact H2
    iexists _; isplitr; swap
    · iexact HO
    · ipureintro; intro p hp
      rcases Finset.mem_insert.1 hp with rfl | hp
      · exact .inr rfl
      · exact .inl hp
  unfold posInv
  iintro %_ ⟨-, Hp, HT, ⟨%gp, %hgp, HA⟩, HC, HV, H1, H2, %W1, %hW1, HO⟩
  -- the negative list
  rw [wp_bind]
  iapply (wp_wand_r frame _ _ (Q := fun _ => _))
  isplitl [Hn HT HA HC HV H3 H4 HO]
  · iapply (t4_loop d L 0#32 qn neg tbl gp O W1 hneg)
    unfold negInv
    isplitr; · iexact Hmw
    isplitl [Hn]; · iexact Hn
    isplitl [HT]; · iexact HT
    isplitl [HA]
    · iexists _; isplitr; swap
      · iexact HA
      · ipureintro; intro j; rw [Nat.mul_zero, Finset.sum_range_zero, add_zero]
    isplitl [HC]; · iexact HC
    isplitl [HV]; · iexact HV
    isplitl [H3]; · iexact H3
    isplitl [H4]; · iexact H4
    iexists _; isplitr; swap
    · iexact HO
    · ipureintro; intro p hp; exact .inl hp
  unfold negInv
  iintro %_ ⟨-, Hn, HT, ⟨%gn, %hgn, HA⟩, HC, HV, H3, H4, %W2, %hW2, HO⟩
  ihave Ho := (Entails.of_eq (show ((outV : Memref sig .scVector .hbm S32x102400 .i32).view.loc (thr d L) ↦[(outRow L).view.set]{fullShare} f : sProp (MM F))
      = ((outRow L).view.loc (thr d L) ↦[(outRow L).view.set]{fullShare} f) from rfl)) $$ Ho
  sl_exec (disch := exact View.amount_pos _ _ (show 0 < S102400.numel by decide))
  have eo : ∀ i ∈ (outRow L).view.set,
      (outRow L).view.writes (Elt F) f [⟨Rect.whole S102400, tile_body.sl.dma0_1 (F := F) gn⟩] i = counts tbl pos neg i := by
    intro i hi
    rw [outRow_set] at hi
    have hd : tile_body.sl.dma0_1 (F := F) gn = gn := by
      unfold tile_body.sl.dma0_1; exact View.read_whole (Val := Elt F) cc1_scratch1 gn
    have e1 : (outRow L).view.writes (Elt F) f [⟨Rect.whole S102400, tile_body.sl.dma0_1 (F := F) gn⟩] i
        = View.write (Elt F) (outRow L).view f gn Finset.univ i := by
      rw [← View.write_univ_eq_writes_whole, hd, View.writes_nil]
    refine e1.trans ((outRow_write (F := F) L f gn i hi).trans ?_)
    have hw : (i 0).val = wid L := (Finset.mem_filter.1 hi).2
    have hj : ((at1 (N := 102400) (i 1).val : S102400.Idx) 0).val = (i 1).val := at1_val (N := 102400) (i 1).isLt 0
    have hb : base L = 100000 * wid L := by unfold base wid; omega
    rw [hgn, hgp, hj, hb, zero_add]
    unfold counts Words.count
    rw [hw]
  ihave Ho := (Entails.of_eq (pointsTo_congr (ℓ := (outRow L).view.loc (thr d L)) (q := fullShare) eo)) $$ Ho
  sl_step
  isplitl [Ht Hp Hn Ho]
  · isplitl [Ht]; · iexact Ht
    isplitl [Hp]; · iexact Hp
    isplitl [Hn]; · iexact Hn
    iexact Ho
  isplitl [HT HA HC HV Hbufs]
  · isplitl [HT]; · iexists _; iexact HT
    isplitl [HA]; · iexists _; iexact HA
    isplitl [HC]; · iexact HC
    isplitl [HV]; · iexact HV
    iexact Hbufs
  isplitl [H0 H1 H2 H3 H4 H5 Hsems]
  · isplitl [H0]; · iexact H0
    isplitl [H1]; · iexact H1
    isplitl [H2]; · iexact H2
    isplitl [H3]; · iexact H3
    isplitl [H4]; · iexact H4
    isplitl [H5]; · iexact H5
    iexact Hsems
  iexists _; isplitr; swap
  · iexact HO
  · ipureintro; intro p hp
    rcases Finset.mem_insert.1 hp with rfl | hp
    · exact .inr rfl
    rcases hW2 p hp with hp | hp
    · exact hW1 p hp
    · exact .inr hp

end Tile

end Cert.Proof.OfKernelIdeal

end
-- ==== Proof.CallIdeal.lean ====
/-
  The scatter call on the SparseCores: what it takes and brings back, how that is dealt to its thirty-two tasks, and that
  every task does its part.
-/
module

public import proofs.«01_k».proof.Proof.BodyIdeal

@[expose] public section

noncomputable section

namespace Cert.Proof.OfKernelIdeal

open Cert.KernelIdeal Cert.KernelIdeal.Gen Cert.Proof.Add Cert.Proof.Words

open Idealize.ShloMosaic
open Idealize.ShloMosaic.SparseCore (S V T)
open Idealize.ShloMosaic.SparseCore.Cfg (HIx Pay)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The call's arrays on device `d`: the packed table, the two flattened lists, the counts. -/
abbrev l3 (d : Dev nD) : Loc nD τ sig := (T d : Thread nD τ).loc main_v3
abbrev l4 (d : Dev nD) : Loc nD τ sig := (T d : Thread nD τ).loc main_v4
abbrev l5 (d : Dev nD) : Loc nD τ sig := (T d : Thread nD τ).loc main_v5
abbrev l6 (d : Dev nD) : Loc nD τ sig := (T d : Thread nD τ).loc main_v6

variable (tbl : Dev nD → S3200.Idx → BitVec 32) (pos neg : Dev nD → S6400000.Idx → BitVec 32)

/-- What worker `w` reads: its read share of the table and of both lists. -/
def reads (d : Dev nD) (w : ℕ) : sProp (MM F) :=
  iprop((l3 d ↦{shareTokN fullShare w} tbl d) ∗ (l4 d ↦{shareTokN fullShare w} pos d) ∗ (l5 d ↦{shareTokN fullShare w} neg d))

/-- What worker `w` is handed: that, and its row of the counts at anything; -/
def goOf (d : Dev nD) (w : ℕ) : sProp (MM F) :=
  iprop(reads (F := F) tbl pos neg d w ∗ ∃ f : S32x102400.Idx → BitVec 32, l6 d ↦[rowSet w]{fullShare} f)
/-- and what it hands back: the row at its counts. -/
def tdOf (d : Dev nD) (w : ℕ) : sProp (MM F) :=
  iprop(reads (F := F) tbl pos neg d w ∗ l6 d ↦[rowSet w]{fullShare} counts (tbl d) (pos d) (neg d))

instance reads_storable (d : Dev nD) (w : ℕ) : BI.Storable (upEmb : UEmb _ (MM F)) (reads (F := F) tbl pos neg d w) := by
  unfold reads; infer_instance
instance goOf_storable (d : Dev nD) (w : ℕ) : BI.Storable (upEmb : UEmb _ (MM F)) (goOf (F := F) tbl pos neg d w) := by
  unfold goOf; infer_instance
instance tdOf_storable (d : Dev nD) (w : ℕ) : BI.Storable (upEmb : UEmb _ (MM F)) (tdOf (F := F) tbl pos neg d w) := by
  unfold tdOf; infer_instance

/-- The worker on SparseCore `c`'s subcore `i`. -/
abbrev wOf (c i : ℕ) : ℕ := 2 * i + c

/-- The call's payloads. -/
def P : (K (F := F)).Pay (nD := nD) (Val := Elt F) (Name := ℕ) (U := UU) where
  st := fun q d c => match q with | 0 => bigSep Finset.univ fun i : Fin 16 => goOf (F := F) tbl pos neg d (wOf c.val i.val)
  dn := fun q d c => match q with | 0 => bigSep Finset.univ fun i : Fin 16 => tdOf (F := F) tbl pos neg d (wOf c.val i.val)
  go := fun q d c i => match q with | 0 => goOf (F := F) tbl pos neg d (wOf c.val i.val)
  td := fun q d c i => match q with | 0 => tdOf (F := F) tbl pos neg d (wOf c.val i.val)
  x := fun _ _ => iprop(emp)

instance P_storable : (P (F := F) tbl pos neg).IsStorable where
  st q d c := match q with
    | 0 => (inferInstance : BI.Storable (upEmb : UEmb _ (MM F)) (bigSep Finset.univ fun i : Fin 16 => goOf (F := F) tbl pos neg d (wOf c.val i.val)))
  dn q d c := match q with
    | 0 => (inferInstance : BI.Storable (upEmb : UEmb _ (MM F)) (bigSep Finset.univ fun i : Fin 16 => tdOf (F := F) tbl pos neg d (wOf c.val i.val)))
  go q d c i := match q with
    | 0 => (inferInstance : BI.Storable (upEmb : UEmb _ (MM F)) (goOf (F := F) tbl pos neg d (wOf c.val i.val)))
  td q d c i := match q with
    | 0 => (inferInstance : BI.Storable (upEmb : UEmb _ (MM F)) (tdOf (F := F) tbl pos neg d (wOf c.val i.val)))

theorem vecSplit : (K (F := F)).VecSplit' (P tbl pos neg) 0 := by
  intro d c
  show (bigSep Finset.univ fun i : Fin 16 => goOf (F := F) tbl pos neg d (wOf c.val i.val)) ⊢ |={Set.univ}=> iprop(
    (bigSep Finset.univ fun i : Fin 16 => goOf (F := F) tbl pos neg d (wOf c.val i.val))
    ∗ ((bigSep Finset.univ fun i : Fin 16 => tdOf (F := F) tbl pos neg d (wOf c.val i.val))
        -∗ bigSep Finset.univ fun i : Fin 16 => tdOf (F := F) tbl pos neg d (wOf c.val i.val)))
  iintro H; imodintro
  isplitl [H]; · iexact H
  iintro H; iexact H

/-! ## The tasks -/

/-- The coordinates of the task on SparseCore `c`'s subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__scatter_kernel (coordsV c s)
          tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5) ⟨⟩ c s := rfl

/-- The task's part: from what it is handed, with its scratch and semaphores, its row at its counts. -/
theorem task (hF : (K (F := F)).Facts) (hpos : ∀ d x, (pos d x).toNat < 100000) (hneg : ∀ d x, (neg d x).toNat < 100000)
    (d : Dev nD) (L : grid1.Coords) (O : CellTallies nD τ sig (HIx 1)) (W : Waits sig (HIx 1)) (hO : ∀ g, O g none = 0) :
    iprop(levAts (K (F := F)).L (K (F := F)).lev ∗ emp ∗ goOf (F := F) tbl pos neg d (wid L)
        ∗ scopedBufs (thr d L) ∗ scopedSems0 (thr d L) ∗ owes (thr d L) O W)
      ⊢ wp frame (wpE (defs₀ (F := F)) 𝒱₀ (thr d L) none) Set.univ
          (cc1__scatter_kernel L tblV (Memref.isWhole_whole _) posV (Memref.isWhole_whole _) negV (Memref.isWhole_whole _) outV (Memref.isWhole_whole _)
            sT (Memref.isWhole_whole _) sA (Memref.isWhole_whole _) sC (Memref.isWhole_whole _) sV (Memref.isWhole_whole _)
            cc1_scoped0 cc1_scoped1 cc1_scoped2 cc1_scoped3 cc1_scoped4 cc1_scoped5)
          fun _ => iprop(tdOf (F := F) tbl pos neg d (wid L) ∗ scopedBufs (thr d L) ∗ scopedSems0 (thr d L)
            ∗ ∃ W', ⌜∀ p ∈ W', p ∈ W ∨ p.2 = none ∨ p.2 = some 0⌝ ∗ owes (thr d L) O W') := by
  unfold goOf tdOf reads
  iintro ⟨Hlv, -, ⟨⟨Ht, Hp, Hn⟩, %f, Ho⟩, Hb, Hs, HO⟩
  iapply (wp_mono frame _ _ (Q := fun _ => iprop(tileRes (F := F) d L (shareTokN fullShare (wid L)) (shareTokN fullShare (wid L)) (shareTokN fullShare (wid L))
      (tbl d) (pos d) (neg d) (counts (tbl d) (pos d) (neg d))
            ∗ scopedBufs (thr d L) ∗ scopedSems0 (thr d L)
            ∗ ∃ W', ⌜∀ p ∈ W', p ∈ W ∨ p.2 = none⌝ ∗ owes (thr d L) O W')) ?_)
  rotate_left
  · iapply (tile_body d L hF O W hO _ _ _ (tbl d) (pos d) (neg d) f (hpos d) (hneg d))
    isplitl [Hlv]; · iexact Hlv
    isplitl [Ht Hp Hn Ho]
    · unfold tileRes
      isplitl [Ht]; · iexact Ht
      isplitl [Hp]; · iexact Hp
      isplitl [Hn]; · iexact Hn
      iexact Ho
    isplitl [Hb]; · iexact Hb
    isplitl [Hs]; · iexact Hs
    iexact HO
  · intro _
    unfold tileRes
    iintro ⟨⟨Ht, Hp, Hn, Ho⟩, Hb, Hs, %W', %hW', HO⟩
    isplitl [Ht Hp Hn Ho]
    · isplitr [Ho]
      · isplitl [Ht]; · iexact Ht
        isplitl [Hp]; · iexact Hp
        iexact Hn
      iexact Ho
    isplitl [Hb]; · iexact Hb
    isplitl [Hs]; · iexact Hs
    iexists W'; isplitr
    · ipureintro; exact fun p hp => (hW' p hp).imp_right Or.inl
    · iexact HO

set_option maxRecDepth 1024 in
theorem tileObl (hF : (K (F := F)).Facts) (hpos : ∀ d x, (pos d x).toNat < 100000) (hneg : ∀ d x, (neg d x).toNat < 100000) :
    (K (F := F)).TileObl (D (F := F)) 𝒱 (P tbl pos neg) v₀ 0 := by
  intro d c i O W hO _ _
  simp only [show (P tbl pos neg).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact task tbl pos neg hF hpos hneg d (coordsV ⟨_, hc.1⟩ ⟨_, hc.2⟩) O W hO

/-! ## Dealing the arrays to the workers -/

/-- The thirty-two workers are the two SparseCores' sixteen subcores. -/
theorem bigSep_workers (Φ : ℕ → sProp (MM F)) :
    (bigSep Finset.univ fun w : Fin 32 => Φ w.val) = bigSep Finset.univ fun c : Fin 2 => bigSep Finset.univ fun i : Fin 16 => Φ (wOf c.val i.val) := by
  rw [bigSep_univ_equiv ((Equiv.prodComm (Fin 2) (Fin 16)).trans (finProdFinEquiv : Fin 16 × Fin 2 ≃ Fin 32)) (fun w : Fin 32 => Φ w.val),
    ← Finset.univ_product_univ, SparseCore.bigSep_product]
  refine bigSep_congr fun c _ => bigSep_congr fun i _ => congrArg Φ ?_
  show c.val + 2 * i.val = 2 * i.val + c.val
  omega

theorem rows_disjoint : ∀ i ∈ (Finset.univ : Finset (Fin 32)), ∀ j ∈ (Finset.univ : Finset (Fin 32)), i ≠ j → Disjoint (rowSet i.val) (rowSet j.val) := by
  intro i _ j _ h
  refine Finset.disjoint_left.2 fun x hi hj => h (Fin.ext ?_)
  exact (Finset.mem_filter.1 hi).2.symm.trans (Finset.mem_filter.1 hj).2

theorem rows_cover : ((Finset.univ : Finset (Fin 32)).biUnion fun w => rowSet w.val) = Finset.univ := by
  refine Finset.eq_univ_of_forall fun x => Finset.mem_biUnion.2 ⟨(⟨(x 0).val, (x 0).isLt⟩ : Fin 32), Finset.mem_univ _, ?_⟩
  exact Finset.mem_filter.2 ⟨Finset.mem_univ _, rfl⟩

/-- The counts held whole are its rows. -/
theorem rows_eq (d : Dev nD) (f : S32x102400.Idx → BitVec 32) :
    (l6 d ↦{fullShare} f : sProp (MM F)) = bigSep Finset.univ fun w : Fin 32 => l6 d ↦[rowSet w.val]{fullShare} f := by
  have h := pointsTo_biUnion (Ix := HIx 1) (Name := ℕ) (U := UU) (Lvl := ℕ) (Val := Elt F) (q := fullShare) (f := f) Finset.univ (ℓ := l6 d) (fun w : Fin 32 => rowSet w.val) rows_disjoint
  exact (congrArg (fun A => (l6 d ↦[A]{fullShare} f : sProp (MM F))) rows_cover).symm.trans h

/-- What the TensorCore keeps of the arrays read by every task. -/
def kept (d : Dev nD) : sProp (MM F) :=
  iprop((l3 d ↦{shareDrop fullShare 32} tbl d) ∗ (l4 d ↦{shareDrop fullShare 32} pos d) ∗ (l5 d ↦{shareDrop fullShare 32} neg d))

/-- The four arrays held whole: what the TensorCore keeps, and what the call takes; -/
theorem call_in (d : Dev nD) (f : S32x102400.Idx → BitVec 32) :
    (iprop((l3 d ↦{fullShare} tbl d) ∗ (l4 d ↦{fullShare} pos d) ∗ (l5 d ↦{fullShare} neg d) ∗ (l6 d ↦{fullShare} f)) : sProp (MM F))
      ⊢ iprop(kept (F := F) tbl pos neg d ∗ bigSep Finset.univ fun c : Fin ((K (F := F)).nCore 0) => (P (F := F) tbl pos neg).st 0 d c) := by
  show _ ⊢ iprop(kept (F := F) tbl pos neg d ∗ bigSep Finset.univ fun c : Fin 2 => bigSep Finset.univ fun i : Fin 16 => goOf (F := F) tbl pos neg d (wOf c.val i.val))
  rw [← bigSep_workers (F := F) (goOf tbl pos neg d), rows_eq]
  unfold kept goOf reads
  rw [bigSep_sep', bigSep_sep', bigSep_sep']
  iintro ⟨H3, H4, H5, H6⟩
  ihave H3 := (Transfers.pointsTo_toks_split fullShare 32) $$ H3
  ihave H4 := (Transfers.pointsTo_toks_split fullShare 32) $$ H4
  ihave H5 := (Transfers.pointsTo_toks_split fullShare 32) $$ H5
  icases H3 with ⟨K3, H3⟩
  icases H4 with ⟨K4, H4⟩
  icases H5 with ⟨K5, H5⟩
  isplitl [K3 K4 K5]
  · isplitl [K3]; · iexact K3
    isplitl [K4]; · iexact K4
    iexact K5
  isplitl [H3 H4 H5]
  · isplitl [H3]; · iexact H3
    isplitl [H4]; · iexact H4
    iexact H5
  iapply (SparseCore.ent (bigSep_mono (s := Finset.univ) fun (w : Fin 32) _ => (show (l6 d ↦[rowSet w.val]{fullShare} f : sProp (MM F)) ⊢
    iprop(∃ f : S32x102400.Idx → BitVec 32, l6 d ↦[rowSet w.val]{fullShare} f) from exists_intro f)))
  iexact H6

/-- and what it keeps with what the call brings back: the four whole again, the counts computed. -/
theorem call_out (d : Dev nD) :
    (iprop(kept (F := F) tbl pos neg d ∗ bigSep Finset.univ fun c : Fin ((K (F := F)).nCore 0) => (P (F := F) tbl pos neg).dn 0 d c) : sProp (MM F))
      ⊢ iprop((l3 d ↦{fullShare} tbl d) ∗ (l4 d ↦{fullShare} pos d) ∗ (l5 d ↦{fullShare} neg d) ∗ (l6 d ↦{fullShare} counts (tbl d) (pos d) (neg d))) := by
  show iprop(kept (F := F) tbl pos neg d ∗ bigSep Finset.univ fun c : Fin 2 => bigSep Finset.univ fun i : Fin 16 => tdOf (F := F) tbl pos neg d (wOf c.val i.val)) ⊢ _
  rw [← bigSep_workers (F := F) (tdOf tbl pos neg d), rows_eq]
  unfold kept tdOf reads
  rw [bigSep_sep', bigSep_sep', bigSep_sep']
  iintro ⟨⟨K3, K4, K5⟩, ⟨H3, H4, H5⟩, H6⟩
  isplitl [K3 H3]; · iapply (Transfers.pointsTo_toks_join fullShare 32); isplitl [K3] <;> iassumption
  isplitl [K4 H4]; · iapply (Transfers.pointsTo_toks_join fullShare 32); isplitl [K4] <;> iassumption
  isplitl [K5 H5]; · iapply (Transfers.pointsTo_toks_join fullShare 32); isplitl [K5] <;> iassumption
  iexact H6

end Cert.Proof.OfKernelIdeal

end
-- ==== Proof.RegionsIdeal.lean ====
module

public import proofs.«01_k».proof.Proof.BaseIdeal
public import proofs.«01_k».proof.Proof.Gen.KernelIdeal.Launch
public import proofs.«01_k».proof.Proof.Gen.KernelIdeal.Points
public import Idealize.ShloMosaic.Lib.Pipeline.ValueKit
public import Idealize.ShloMosaic.Lib.VecWindow

@[expose] public section

set_option maxRecDepth 65536

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A TensorCore buffer held whole at `f`. -/
abbrev tpt (c : Dev nD) {sp : Space} {S : Shape} {e : EltTy} (M : Memref sig .tc sp S e) (f : Buf (Elt F) (M.view.loc (c : Thread nD τ))) :
    sProp (MM F) := M.view.loc (c : Thread nD τ) ↦{fullShare} f

/-- The packing kernel's body: the table's words left in the result's staging buffer are the packed words of the
    vector in the operand's. -/
theorem pack_run (c : Dev nD) (M0 : Memref sig .tc .vmem S32x3200 .f32) (h0 : M0.IsWhole) (M1 : Memref sig .tc .vmem S1x3200 .i32) (h1 : M1.IsWhole)
    (f0 : Buf (Elt F) (M0.view.loc (c : Thread nD τ))) (f1 : Buf (Elt F) (M1.view.loc (c : Thread nD τ))) :
    iprop(tpt c M0 f0 ∗ tpt c M1 f1)
      ⊢ wp frame (wpE (defs₀ (F := F)) 𝒱₀ (c : Thread nD τ) none) Set.univ (cc0__pack_body M0 h0 M1 h1) fun _ =>
        iprop(tpt c M0 f0 ∗ owns (c : Thread nD τ) M1 fullShare (k0_pay1 (M0.view.read (Elt F) f0))) := by
  rw [cc0__pack_body_eq_skeleton]
  unfold cc0__pack_body_skel
  iintro ⟨H0, H1⟩
  sl_exec!
  sl_step
  isplitl [H0]; · iexact H0
  unfold owns
  rw [h1.set_eq_univ]
  iexists _
  isplitr; swap; · iexact H1
  ipureintro
  unfold pack_run.sl.H1_1
  rw [View.read_writes_full, View.readAt_full]

/-- The reduction's body at the first grid point: the block's minimum is stored. -/
theorem reduce_run (c : Dev nD) (i : grid2.Coords) (M0 : Memref sig .tc .vmem S32x12800 .i32) (h0 : M0.IsWhole) (M1 : Memref sig .tc .smem S1x1 .i32) (h1 : M1.IsWhole)
    (f0 : Buf (Elt F) (M0.view.loc (c : Thread nD τ))) (f1 : Buf (Elt F) (M1.view.loc (c : Thread nD τ))) (hc : k2_cond1 i = 1#1) (hc' : ¬ k2_cond2 i = 1#1) :
    iprop(tpt c M0 f0 ∗ tpt c M1 f1)
      ⊢ wp frame (wpE (defs₀ (F := F)) 𝒱₀ (c : Thread nD τ) none) Set.univ (cc2__reduce_body i M0 h0 M1 h1) fun _ =>
        iprop(tpt c M0 f0 ∗ owns (c : Thread nD τ) M1 fullShare (fun _ => extractAt ![0, 0, 0] (k2_pay1 i (M0.view.read (Elt F) f0)) inpos_S1x1x1_p0_0_0)) := by
  rw [cc2__reduce_body_eq_skeleton]
  unfold cc2__reduce_body_skel
  iintro ⟨H0, H1⟩
  sl_exec!
  sl_step
  isplitl [H0]; · iexact H0
  unfold owns
  rw [h1.set_eq_univ]
  iexists _
  isplitr; swap; · iexact H1
  ipureintro
  unfold reduce_run.sl.H1_1 reduce_run.sl.v14
  rw [View.read_writes_full, View.readAt_full]
  rfl

/-- The reduction's body at a later grid point: the smaller of the minimum so far and the block's is stored. -/
theorem reduce_run_next (c : Dev nD) (i : grid2.Coords) (M0 : Memref sig .tc .vmem S32x12800 .i32) (h0 : M0.IsWhole) (M1 : Memref sig .tc .smem S1x1 .i32) (h1 : M1.IsWhole)
    (f0 : Buf (Elt F) (M0.view.loc (c : Thread nD τ))) (f1 : Buf (Elt F) (M1.view.loc (c : Thread nD τ))) (x : BitVec 32)
    (hx : M1.view.read (Elt F) f1 = fun _ => x) (hc : ¬ k2_cond1 i = 1#1) (hc' : k2_cond2 i = 1#1) :
    iprop(tpt c M0 f0 ∗ tpt c M1 f1)
      ⊢ wp frame (wpE (defs₀ (F := F)) 𝒱₀ (c : Thread nD τ) none) Set.univ (cc2__reduce_body i M0 h0 M1 h1) fun _ =>
        iprop(tpt c M0 f0 ∗ owns (c : Thread nD τ) M1 fullShare
          (fun _ => Scalar.minsi x (extractAt ![0, 0, 0] (k2_pay1 i (M0.view.read (Elt F) f0)) inpos_S1x1x1_p0_0_0))) := by
  rw [cc2__reduce_body_eq_skeleton]
  unfold cc2__reduce_body_skel
  iintro ⟨H0, H1⟩
  sl_exec!
  sl_step
  isplitl [H0]; · iexact H0
  unfold owns
  rw [h1.set_eq_univ]
  iexists _
  isplitr; swap; · iexact H1
  ipureintro
  unfold reduce_run_next.sl.H1_1
  rw [View.read_writes_full]
  unfold reduce_run_next.sl.v22 reduce_run_next.sl.r reduce_run_next.sl.v14
  rw [View.readAt_full, View.readAt_full, hx]
  rfl

/-! ## The proof data -/

variable (V : (c : Dev nD) → (b : Ref sig .tc) → Buf (Elt F) ((c : Thread nD τ).loc b)) (n b : ℕ)
variable (X : Dev nD → S1x3200.Idx → Elt F .i32) (Y : Dev nD → Fin grid2.N → BitVec 32)

/-- The vector's block as the packing kernel finds it. -/
abbrev stg0 (c : Dev nD) : (cfg0.win 0).block.Idx → Elt F (cfg0.win 0).elt :=
  ((cfg0.win 0).blk t0_0).view.read (Elt F) (V c main_v1)

/-- The block of the counts the reduction finds at grid point `t`. -/
abbrev stg2 (c : Dev nD) (t : Fin grid2.N) : (cfg2.win 0).block.Idx → Elt F (cfg2.win 0).elt :=
  ((cfg2.win 0).blk t).view.read (Elt F) (V c main_v6)

/-- The minimum of block `t`. -/
@[irreducible] def blockMin (c : Dev nD) (t : Fin grid2.N) : BitVec 32 :=
  extractAt ![0, 0, 0] (k2_pay1 (F := F) (grid2.coords t) (stg2 V c t)) inpos_S1x1x1_p0_0_0

/-- The packing kernel's proof data, `X` the words it leaves: before and after its one point the core owes what it owes
    before call `n`, and has waited on nothing above level `b`. -/
def dat0 (c : Dev nD) : Dat τ (Elt F) (HIx 1) ℕ UU ℕ cfg0 c where
  A w := V c (Pipeline.arrRef spec0 w)
  after w _ := match w with
    | ⟨0, _⟩ => stg0 V c
    | ⟨1, _⟩ => X c
  Φ _ := Pipeline.scopedRest spec0 c
  q _ := fullShare
  owed _ := (K (F := F)).Otc c n
  recorded _ := {p | (K (F := F)).lev (T c, p.1) p.2 ≤ b}

/-- The reduction's proof data: after point `t` the result holds `Y c t`. -/
def dat2 (c : Dev nD) : Dat τ (Elt F) (HIx 1) ℕ UU ℕ cfg2 c where
  A w := V c (Pipeline.arrRef spec2 w)
  after w t := match w with
    | ⟨0, _⟩ => stg2 V c t
    | ⟨1, _⟩ => fun _ => Y c t
  Φ _ := Pipeline.scopedRest spec2 c
  q _ := fullShare
  owed _ := (K (F := F)).Otc c n
  recorded _ := {p | (K (F := F)).lev (T c, p.1) p.2 ≤ b}

/-- No pipeline prefetches a table. -/
abbrev adm : (p : Fin 2) → (pcfgs (F := F) p).Adm := fun p => (cfgs p).toPCfg_adm

/-- The two pipelines' proof data. -/
def pdats : (p : Fin 2) → (c : Dev nD) → Dat τ (Elt F) (HIx 1) ℕ UU ℕ (Pipeline.pin (pcfgs (F := F)) adm p) c
  | ⟨0, _⟩ => fun c => dat0 V n b X c
  | ⟨1, _⟩ => fun c => dat2 V n b Y c

theorem before0 (c : Dev nD) (d : (cfg0.win 0).block.Idx → Elt F (cfg0.win 0).elt) : (dat0 V n b X c).before 0 t0_0 d = stg0 V c := by
  unfold Dat.before; rw [if_pos (fetch0_0 t0_0)]; rfl

theorem before2 (c : Dev nD) (t : Fin grid2.N) (d : (cfg2.win 0).block.Idx → Elt F (cfg2.win 0).elt) : (dat2 V n b Y c).before 0 t d = stg2 V c t := by
  unfold Dat.before; rw [if_pos (fetch2_0 t)]; rfl

theorem conds : ∀ t : Fin grid2.N, (t.val = 0 → k2_cond1 (grid2.coords t) = 1#1 ∧ ¬ k2_cond2 (grid2.coords t) = 1#1)
    ∧ (t.val ≠ 0 → ¬ k2_cond1 (grid2.coords t) = 1#1 ∧ k2_cond2 (grid2.coords t) = 1#1) := by decide +kernel

theorem not_idle : ∀ t : Fin grid2.N, idle2 1 (grid2.coords t) = false := by decide +kernel

theorem fetch_out : ∀ t : Fin grid2.N, (cfg2.win 1).fetch t = false := by decide +kernel
theorem flush_prev : ∀ t : Fin grid2.N, t.val ≠ 0 → (cfg2.win 1).flush ⟨t.val - 1, Nat.lt_of_le_of_lt (Nat.sub_le _ _) t.isLt⟩ = false := by decide +kernel

/-- The point before `t`. -/
abbrev prev (t : Fin grid2.N) : Fin grid2.N := ⟨t.val - 1, Nat.lt_of_le_of_lt (Nat.sub_le _ _) t.isLt⟩

theorem before2_out (c : Dev nD) (t : Fin grid2.N) (ht : t.val ≠ 0) (d : (cfg2.win 1).block.Idx → Elt F (cfg2.win 1).elt) :
    (dat2 V n b Y c).before 1 t d = fun _ => Y c (prev t) := by
  unfold Dat.before
  rw [fetch_out t, if_neg (by decide), if_neg ht]
  show (if (cfg2.win 1).flush ⟨t.val - 1, _⟩ then d else match idle2 1 (grid2.coords ⟨t.val - 1, _⟩) with
    | true => (dat2 V n b Y c).found 1 ⟨t.val - 1, _⟩ d
    | false => (dat2 V n b Y c).kept 1 ⟨t.val - 1, _⟩ d) = _
  rw [flush_prev t ht, not_idle]
  rfl

/-- The packing kernel's body keeps its proof data. -/
theorem body0 (hX : ∀ c, k0_pay1 (F := F) (stg0 V c) = X c) (c : Dev nD) : BodyObligation (dat0 V n b X c) (defs₀ (F := F)) 𝒱₀ none Set.univ := fun t => by
  obtain rfl := fin_N0 t
  rw [bigSep_W0, bigSep_W0]
  simp only [owns_whole_eq]
  rw [show (dat0 V n b X c).Φ t0_0.succ = (dat0 V n b X c).Φ t0_0.castSucc from rfl,
    show (dat0 V n b X c).owesAt none t0_0.succ = (dat0 V n b X c).owesAt none t0_0.castSucc from rfl]
  iintro ⟨HΦ, Howes, ⟨%d0, %f0, %hf0, H0⟩, ⟨%d1, %f1, -, H1⟩⟩
  rw [before0] at hf0
  subst hf0
  iapply (wp_wand_r frame _ _ (Q := fun _ => _))
  have e : (stage0_0 0).view.read (Elt F) (stg0 V c) = stg0 V c := View.read_whole (Val := Elt F) cc0_stg0_0 (stg0 V c)
  have hrun := pack_run c (stage0_0 0) (hstage0_0 0) (stage0_1 0) (hstage0_1 0) (stg0 V c) f1
  rw [e, hX c] at hrun
  isplitl [H0 H1]
  · iapply hrun
    isplitl [H0] <;> iassumption
  iintro %_ ⟨H0, H1⟩
  isplitl [HΦ]; · iexact HΦ
  isplitl [Howes]; · iexact Howes
  isplitl [H0]; · iexists (stg0 V c); isplitr; swap; (· iexact H0); ipureintro; exact rfl
  simp only [owns_whole_eq]
  icases H1 with ⟨%g, %hg, H1⟩
  iexists _; isplitr; swap; (· iexact H1); ipureintro
  exact hg

/-- The reduction's body at point `t`, over the contents its windows' buffers hold there. -/
theorem body2_at (hY0 : ∀ c, Y c t2_0 = blockMin V c t2_0) (hY : ∀ c t, t.val ≠ 0 → Y c t = Scalar.minsi (Y c (prev t)) (blockMin V c t))
    (c : Dev nD) (t : Fin grid2.N) :
    iprop((dat2 V n b Y c).Φ t.castSucc ∗ (dat2 V n b Y c).owesAt none t.castSucc
        ∗ (∃ d, owns (c : Thread nD τ) (st2_0 t) fullShare ((dat2 V n b Y c).before 0 t d))
        ∗ (∃ d, owns (c : Thread nD τ) (st2_1 t) fullShare ((dat2 V n b Y c).before 1 t d)))
      ⊢ wp frame (wpE (defs₀ (F := F)) 𝒱₀ (c : Thread nD τ) none) Set.univ (bodyAt2 t) fun _ =>
        iprop((dat2 V n b Y c).Φ t.castSucc ∗ (dat2 V n b Y c).owesAt none t.castSucc
          ∗ owns (c : Thread nD τ) (st2_0 t) fullShare (stg2 V c t)
          ∗ owns (c : Thread nD τ) (st2_1 t) fullShare (fun _ => Y c t : S1x1.Idx → Elt F .i32)) := by
  have w0 : (st2_0 t).IsWhole := hstage2_0 ((cfg2.slots t 0).cast nbuf2_0)
  have w1 : (st2_1 t).IsWhole := hstage2_1 ((cfg2.slots t 1).cast nbuf2_1)
  iintro ⟨HΦ, Howes, ⟨%d0, H0⟩, ⟨%d1, H1⟩⟩
  rw [before2]
  unfold owns
  rw [w0.set_eq_univ, w1.set_eq_univ]
  icases H0 with ⟨%f0, %hf0, H0⟩
  icases H1 with ⟨%f1, %hf1, H1⟩
  iapply (wp_wand_r frame _ _ (Q := fun _ => iprop(tpt c (st2_0 t) f0 ∗ owns (c : Thread nD τ) (st2_1 t) fullShare (fun _ => Y c t : S1x1.Idx → Elt F .i32))))
  have eb : extractAt ![0, 0, 0] (k2_pay1 (F := F) (grid2.coords t) ((st2_0 t).view.read (Elt F) f0)) inpos_S1x1x1_p0_0_0 = blockMin V c t := by
    rw [hf0]; unfold blockMin; rfl
  isplitl [H0 H1]
  · by_cases ht : t.val = 0
    · have e : Y c t = blockMin V c t := by
        obtain rfl : t = t2_0 := Fin.ext ht
        exact hY0 c
      rw [e, ← eb]
      iapply (reduce_run c (grid2.coords t) (st2_0 t) w0 (st2_1 t) w1 f0 f1 ((conds t).1 ht).1 ((conds t).1 ht).2)
      isplitl [H0] <;> iassumption
    · rw [hY c t ht, ← eb]
      iapply (reduce_run_next c (grid2.coords t) (st2_0 t) w0 (st2_1 t) w1 f0 f1 (Y c (prev t)) (hf1.trans (before2_out V n b Y c t ht d1)) ((conds t).2 ht).1 ((conds t).2 ht).2)
      isplitl [H0] <;> iassumption
  iintro %_ ⟨H0, H1⟩
  isplitl [HΦ]; · iexact HΦ
  isplitl [Howes]; · iexact Howes
  isplitl [H0]; · iexists f0; isplitr; swap; (· iexact H0); ipureintro; exact hf0
  unfold owns
  rw [w1.set_eq_univ]
  iexact H1

/-- The reduction's body keeps its proof data. -/
theorem body2 (hY0 : ∀ c, Y c t2_0 = blockMin V c t2_0) (hY : ∀ c t, t.val ≠ 0 → Y c t = Scalar.minsi (Y c (prev t)) (blockMin V c t))
    (c : Dev nD) : BodyObligation (dat2 V n b Y c) (defs₀ (F := F)) 𝒱₀ none Set.univ := fun t => by
  rw [bigSep_W2, bigSep_W2]
  rw [show cfg2.idle 1 (cfg2.grid.coords t) = false from not_idle t]
  exact body2_at V n b Y hY0 hY c t

/-! ## The regions over the thread state -/

/-- The TensorCore's unscoped references. -/
def ucRefs : Finset (DevRef τ sig) := (StableHlo.tcRefs τ sig).filter fun b => ¬ b.isScoped

omit [FloatOps F] in
/-- A core's unscoped buffers at a valuation are that set held at it. -/
theorem unscopedBufs_held (c : Dev nD) (W : Valuation τ sig (Elt F)) :
    (unscopedBufs c (fun b => W b) : sProp (MM F)) = StableHlo.held (c : Thread nD τ) ucRefs W := by
  unfold unscopedBufs StableHlo.held ucRefs StableHlo.tcRefs
  rw [Finset.filter_map, bigSep_map]
  rfl

/-- What the TensorCore owes before call `n`, having waited on nothing above level `b`. -/
def debt (c : Dev nD) : sProp (MM F) :=
  iprop(∃ W, ⌜(K (F := F)).WBelow (T c) W b⌝ ∗ owes (T c) ((K (F := F)).Otc c n) W)

theorem Otc_none (c : Dev nD) (g : GSem nD τ sig) : (K (F := F)).Otc (N := 1) c n g none = 0 := by
  unfold SparseCore.Cfg.Otc
  rw [Finset.sum_apply, Finsupp.finsetSum_apply]
  refine Finset.sum_eq_zero fun q _ => ?_
  by_cases h : n ≤ q.val
  · rw [if_pos h, Finset.sum_apply, Finsupp.finsetSum_apply]
    refine Finset.sum_eq_zero fun k _ => ?_
    rw [tallyAt_apply, if_neg (fun h => by simpa using h.2)]
  · rw [if_neg h]
    rfl

theorem within_of_debt (c : Dev nD) {cfg : Cfg sig Λ₀} (dat : Dat τ (Elt F) (HIx 1) ℕ UU ℕ cfg c) (t : Fin (cfg.N + 1))
    (ho : dat.owed t = (K (F := F)).Otc c n) (hr : dat.recorded t = {p | (K (F := F)).lev (T c, p.1) p.2 ≤ b}) :
    debt n b c ⊢ dat.owesAt none t := by
  unfold Pipeline.Dat.owesAt Pipeline.owesWithin debt
  iintro ⟨%W, %hW, H⟩
  iexists W
  isplitr
  · ipureintro
    intro p hp
    refine Or.inl ?_
    rw [hr]
    exact hW p hp
  rw [ho]
  iexact H

theorem debt_of_within (c : Dev nD) {cfg : Cfg sig Λ₀} (dat : Dat τ (Elt F) (HIx 1) ℕ UU ℕ cfg c) (t : Fin (cfg.N + 1))
    (ho : dat.owed t = (K (F := F)).Otc c n) (hr : dat.recorded t = {p | (K (F := F)).lev (T c, p.1) p.2 ≤ b}) :
    dat.owesAt none t ⊢ debt n b c := by
  unfold Pipeline.Dat.owesAt Pipeline.owesWithin debt
  iintro ⟨%W, %hW, H⟩
  iexists W
  isplitr
  · ipureintro
    intro p hp
    rcases hW hp with h | ⟨w, s, h⟩
    · rw [hr] at h
      exact h
    · rw [h]
      exact Nat.zero_le _
  rw [ho]
  iexact H

variable (Vp : (c : Dev nD) → (b : Ref sig .tc) → Buf (Elt F) ((c : Thread nD τ).loc b))

/-- The result of the packing kernel, as the region leaves it. -/
theorem packed_at (c : Dev nD) : (dat0 V n b X c).arrAt 1 cfg0.N = X c := by
  refine (dat0 V n b X c).arrAt_eq_of_after_last 1 t0_0 (by decide +kernel) _ fun j => ?_
  rfl

/-- The result of the reduction, as the region leaves it. -/
theorem reduced_at (c : Dev nD) : (dat2 V n b Y c).arrAt 1 cfg2.N = (fun _ => Y c t2_7 : S1x1.Idx → Elt F .i32) := by
  refine (dat2 V n b Y c).arrAt_eq_of_after_last 1 t2_7 (by decide +kernel) _ fun j => ?_
  rfl

end Cert.Proof.OfKernelIdeal

end
-- ==== Proof.SegsIdeal.lean ====
module

public import proofs.«01_k».proof.Proof.RegionsIdeal
public import proofs.«01_k».proof.Proof.Gen.KernelIdeal.Launch
public import proofs.«01_k».proof.Proof.Gen.KernelIdeal.Points
public import Idealize.ShloMosaic.Lib.Pipeline.ValueKit
public import Idealize.ShloMosaic.Lib.VecWindow

@[expose] public section

set_option maxRecDepth 65536

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b)) (n b : ℕ)
variable (X : Dev nD → S1x3200.Idx → Elt F .i32) (Y : Dev nD → Fin grid2.N → BitVec 32)
variable (Vp : (c : Dev nD) → (b : Ref sig .tc) → Buf (Elt F) ((c : Thread nD τ).loc b))

set_option backward.isDefEq.respectTransparency.types false in
/-- The packing kernel as a region of the TensorCore's thread: from every unscoped buffer at `V`, to the same with the
    result's buffer at the packed words. -/
def reg0 (hX : ∀ c, k0_pay1 (F := F) (stg0 V c) = X c) (hVp_out : ∀ c, Vp c main_v2 = X c) (hVp_ne : ∀ c (b : Ref sig .tc), b ≠ main_v2 → Vp c b = V c b) :
    Pipeline.RegionSeg (pcfgs (F := F)) adm (pdats V n b X Y) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body0 V n b X hX c).loose
  hwaits c := Pipeline.cellsWaits_intro _ _ _ _ _ fun w s t => (K (F := F)).mayWait_none _ (Otc_none n c)
  pre c := iprop(unscopedBufs c (V c) ∗ debt n b c)
  post c := iprop(unscopedBufs c (Vp c) ∗ debt n b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V n b X Y) (launch0).win (launch0).arr_whole c
      ((pdats V n b X Y 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (within_of_debt n b c (dat0 V n b X c) 0 rfl rfl); iexact HO
    isplitr; · iempintro
    iexact Hrest
  hin c := by
    rw [show (pdats V n b X Y 0 c).Φ 0 = Pipeline.scopedRest spec0 c from rfl]
    iintro ⟨-, -, Hr⟩; iexact Hr
  hout c := by
    rw [Pipeline.ownSems0_none, show (pdats V n b X Y 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V n b X Y) ((pdats V n b X Y 0 c).share_full fun _ => rfl) (V c) (Vp c) ((pdats V n b X Y 0 c).arrAt · cfg0.N)
      (fun w => by
        fin_cases w
        · exact ((pdats V n b X Y 0 c).arrAt_in 0 rfl _).trans (hVp_ne c main_v1 (by decide)).symm
        · exact (packed_at V n b X c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (debt_of_within n b c (dat0 V n b X c) (Fin.last _) rfl rfl); iexact HO

set_option backward.isDefEq.respectTransparency.types false in
/-- The reduction as a region of the TensorCore's thread: from every unscoped buffer at `V`, to the same with the
    result's buffer at the last minimum. -/
def reg2 (hY0 : ∀ c, Y c t2_0 = blockMin V c t2_0)
    (hY : ∀ c t, t.val ≠ 0 → Y c t = Scalar.minsi (Y c (prev t)) (blockMin V c t)) (hVp_out : ∀ c, Vp c main_v7 = (fun _ => Y c t2_7)) (hVp_ne : ∀ c (b : Ref sig .tc), b ≠ main_v7 → Vp c b = V c b) :
    Pipeline.RegionSeg (pcfgs (F := F)) adm (pdats V n b X Y) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V n b Y hY0 hY c).loose
  hwaits c := Pipeline.cellsWaits_intro _ _ _ _ _ fun w s t => (K (F := F)).mayWait_none _ (Otc_none n c)
  pre c := iprop(unscopedBufs c (V c) ∗ debt n b c)
  post c := iprop(unscopedBufs c (Vp c) ∗ debt n b c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V n b X Y) (launch2).win (launch2).arr_whole c
      ((pdats V n b X Y 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (within_of_debt n b c (dat2 V n b Y c) 0 rfl rfl); iexact HO
    isplitr; · iempintro
    iexact Hrest
  hin c := by
    rw [show (pdats V n b X Y 1 c).Φ 0 = Pipeline.scopedRest spec2 c from rfl]
    iintro ⟨-, -, Hr⟩; iexact Hr
  hout c := by
    rw [Pipeline.ownSems0_none, show (pdats V n b X Y 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V n b X Y) ((pdats V n b X Y 1 c).share_full fun _ => rfl) (V c) (Vp c) ((pdats V n b X Y 1 c).arrAt · cfg2.N)
      (fun w => by
        fin_cases w
        · exact ((pdats V n b X Y 1 c).arrAt_in 0 rfl _).trans (hVp_ne c main_v6 (by decide)).symm
        · exact (reduced_at V n b Y c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    iapply (debt_of_within n b c (dat2 V n b Y c) (Fin.last _) rfl rfl); iexact HO

end Cert.Proof.OfKernelIdeal

end
-- ==== Proof.ValuesIdeal.lean ====
/-
  What every buffer of the TensorCore holds along @main, from the launch memory: after the host operations before the
  packing kernel, after that kernel, after the reshapes that feed the SparseCore call, after the call, after the
  reducing kernel, and at the end.
-/
module

public import proofs.«01_k».proof.Proof.BodyIdeal
public import proofs.«01_k».proof.Proof.RegionsIdeal

@[expose] public section

set_option maxRecDepth 65536

noncomputable section

namespace Cert.Proof.OfKernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (nullary unary binary reshape TRef after seq)

variable {F : FTy → Type} [FloatOps F]

/-- The host operations before the packing kernel: the padding and the reshape of its operand. -/
abbrev preOps : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S100000, .f32⟩) main_arg0) (TRef.of (T := ⟨S_, .f32⟩) main_call0_v0) (TRef.of (T := ⟨S102400, .f32⟩) main_v0)
      (fun x v => pad S102400 ![0] ![2400] ![0] x v pads_S100000_S102400_024000 h_S_),
    reshape main_v0 main_v1 (rfl : (.f32 : EltTy) = .f32) shapeCasts_S102400_S32x3200 ]

/-- The reshapes that feed the SparseCore call. -/
abbrev midOps : List (HloOp τ sig (Elt F)) :=
  [ reshape main_v2 main_v3 (rfl : (.i32 : EltTy) = .i32) shapeCasts_S1x3200_S3200,
    reshape main_arg1 main_v4 (rfl : (.i32 : EltTy) = .i32) shapeCasts_S2x3200000_S6400000,
    reshape main_arg2 main_v5 (rfl : (.i32 : EltTy) = .i32) shapeCasts_S2x3200000_S6400000 ]

/-- The operations after the reducing kernel. -/
abbrev postOps : List (HloOp τ sig (Elt F)) :=
  [ reshape main_v7 main_v8 (rfl : (.i32 : EltTy) = .i32) shapeCasts_S1x1_S_,
    unary main_v8 main_v9 (sitofp .f32 : (⟨S_, .i32⟩ : BufTy).Contents (Elt F) → (⟨S_, .f32⟩ : BufTy).Contents (Elt F)) ]

variable (m : (ℓ : Loc nD τ sig) → Buf (Elt F) ℓ)

/-- The launch contents of device `d`'s buffers. -/
def V0 (d : Dev nD) : Valuation τ sig (Elt F) := fun b => m (d, b)
/-- Before the packing kernel. -/
def V1 (d : Dev nD) : Valuation τ sig (Elt F) := after preOps (V0 m d)
/-- The packed words. -/
@[irreducible] def X (d : Dev nD) : S1x3200.Idx → Elt F .i32 := k0_pay1 (F := F) (stg0 (fun c b => V1 m c b) d)
/-- After the packing kernel. -/
def V2 (d : Dev nD) : Valuation τ sig (Elt F) := Function.update (V1 m d) (main_v2 : DevRef τ sig) (X m d)
/-- Before the SparseCore call. -/
def V3 (d : Dev nD) : Valuation τ sig (Elt F) := after midOps (V2 m d)
/-- The call's table of bits, -/
def tbl (d : Dev nD) : S3200.Idx → BitVec 32 := V3 m d (main_v3 : DevRef τ sig)
/-- the positive adjacency's words, -/
def pos (d : Dev nD) : S6400000.Idx → BitVec 32 := V3 m d (main_v4 : DevRef τ sig)
/-- the negative adjacency's, -/
def neg (d : Dev nD) : S6400000.Idx → BitVec 32 := V3 m d (main_v5 : DevRef τ sig)
/-- and the call's result. -/
@[irreducible] def cnt (d : Dev nD) : S32x102400.Idx → BitVec 32 := counts (tbl m d) (pos m d) (neg m d)
/-- After the SparseCore call. -/
def V4 (d : Dev nD) : Valuation τ sig (Elt F) := Function.update (V3 m d) (main_v6 : DevRef τ sig) (cnt m d)

/-- The running minimum after `k + 1` of the reducing kernel's blocks. -/
def runMin (d : Dev nD) : ℕ → BitVec 32
  | 0 => blockMin (F := F) (fun c b => V4 m c b) d t2_0
  | k + 1 => if h : k + 1 < grid2.N then Scalar.minsi (runMin d k) (blockMin (F := F) (fun c b => V4 m c b) d ⟨k + 1, h⟩) else 0#32

/-- The reducing kernel's result block at each point of its grid. -/
@[irreducible] def Y (d : Dev nD) (t : Fin grid2.N) : BitVec 32 := runMin m d t.val

/-- After the reducing kernel. -/
def V5 (d : Dev nD) : Valuation τ sig (Elt F) := Function.update (V4 m d) (main_v7 : DevRef τ sig) (fun _ => Y m d t2_7 : S1x1.Idx → Elt F .i32)
/-- At the end. -/
def V6 (d : Dev nD) : Valuation τ sig (Elt F) := after postOps (V5 m d)

theorem X_eq (d : Dev nD) : k0_pay1 (F := F) (stg0 (fun c b => V1 m c b) d) = X m d := by unfold X; rfl

theorem Y_zero (d : Dev nD) : Y m d t2_0 = blockMin (F := F) (fun c b => V4 m c b) d t2_0 := by
  unfold Y; rfl

theorem Y_next (d : Dev nD) (t : Fin grid2.N) (ht : t.val ≠ 0) :
    Y m d t = Scalar.minsi (Y m d (prev t)) (blockMin (F := F) (fun c b => V4 m c b) d t) := by
  obtain ⟨k, hk⟩ := t
  cases k with
  | zero => exact absurd rfl ht
  | succ k =>
    unfold Y
    rw [runMin, dif_pos hk]
    rfl

theorem V2_out (d : Dev nD) : V2 m d (main_v2 : DevRef τ sig) = X m d := Function.update_self ..
theorem V2_ne (d : Dev nD) (b : Ref sig .tc) (h : b ≠ main_v2) : V2 m d (b : DevRef τ sig) = V1 m d (b : DevRef τ sig) :=
  Function.update_of_ne (StableHlo.devRef_ne_of_ne h) ..
theorem V4_out (d : Dev nD) : V4 m d (main_v6 : DevRef τ sig) = cnt m d := Function.update_self ..
theorem V4_ne (d : Dev nD) (b : Ref sig .tc) (h : b ≠ main_v6) : V4 m d (b : DevRef τ sig) = V3 m d (b : DevRef τ sig) :=
  Function.update_of_ne (StableHlo.devRef_ne_of_ne h) ..
theorem V5_out (d : Dev nD) : V5 m d (main_v7 : DevRef τ sig) = (fun _ => Y m d t2_7 : S1x1.Idx → Elt F .i32) := Function.update_self ..
theorem V5_ne (d : Dev nD) (b : Ref sig .tc) (h : b ≠ main_v7) : V5 m d (b : DevRef τ sig) = V4 m d (b : DevRef τ sig) :=
  Function.update_of_ne (StableHlo.devRef_ne_of_ne h) ..

/-- The operand of the packing kernel: the first argument padded with zeros, in 32 rows. -/
theorem V1_v1 (d : Dev nD) : V1 m d (main_v1 : DevRef τ sig)
    = shapeCast S32x3200 (pad S102400 ![0] ![2400] ![0] (m (d, (main_arg0 : DevRef τ sig)) : S100000.Idx → Elt F .f32)
        (sitofp .f32 (constantI S_ 32 0#32)) pads_S100000_S102400_024000 h_S_) shapeCasts_S102400_S32x3200 := by
  unfold V1 V0 preOps
  after_results
  rfl

/-- An argument is as launched before the packing kernel; -/
theorem V1_arg (d : Dev nD) (b : Ref sig .tc) (h0 : b ≠ main_c) (h1 : b ≠ main_call0_v0) (h2 : b ≠ main_v0) (h3 : b ≠ main_v1) :
    V1 m d (b : DevRef τ sig) = m (d, (b : DevRef τ sig)) := by
  unfold V1 preOps
  simp only [StableHlo.after_cons, StableHlo.after_nil]
  rw [StableHlo.result_of_writes_ne _ _ main_v1 b rfl h3, StableHlo.result_of_writes_ne _ _ main_v0 b rfl h2,
    StableHlo.result_of_writes_ne _ _ main_call0_v0 b rfl h1, StableHlo.result_of_writes_ne _ _ main_c b rfl h0]
  rfl

theorem V3_arg (d : Dev nD) (b : Ref sig .tc) (h0 : b ≠ main_v2) (h1 : b ≠ main_v3) (h2 : b ≠ main_v4) (h3 : b ≠ main_v5) :
    V3 m d (b : DevRef τ sig) = V1 m d (b : DevRef τ sig) := by
  unfold V3 midOps
  simp only [StableHlo.after_cons, StableHlo.after_nil]
  rw [StableHlo.result_of_writes_ne _ _ main_v5 b rfl h3, StableHlo.result_of_writes_ne _ _ main_v4 b rfl h2, StableHlo.result_of_writes_ne _ _ main_v3 b rfl h1, V2_ne m d b h0]

theorem V6_arg (d : Dev nD) (b : Ref sig .tc) (h1 : b ≠ main_v8) (h2 : b ≠ main_v9) :
    V6 m d (b : DevRef τ sig) = V5 m d (b : DevRef τ sig) := by
  unfold V6 postOps
  simp only [StableHlo.after_cons, StableHlo.after_nil]
  rw [StableHlo.result_of_writes_ne _ _ main_v9 b rfl h2, StableHlo.result_of_writes_ne _ _ main_v8 b rfl h1]

/-- The arguments end as they were launched. -/
theorem V6_arg0 (d : Dev nD) : V6 m d (main_arg0 : DevRef τ sig) = m (d, (main_arg0 : DevRef τ sig)) := by
  rw [V6_arg m d main_arg0 (by decide) (by decide), V5_ne m d main_arg0 (by decide), V4_ne m d main_arg0 (by decide),
    V3_arg m d main_arg0 (by decide) (by decide) (by decide) (by decide), V1_arg m d main_arg0 (by decide) (by decide) (by decide) (by decide)]
theorem V6_arg1 (d : Dev nD) : V6 m d (main_arg1 : DevRef τ sig) = m (d, (main_arg1 : DevRef τ sig)) := by
  rw [V6_arg m d main_arg1 (by decide) (by decide), V5_ne m d main_arg1 (by decide), V4_ne m d main_arg1 (by decide),
    V3_arg m d main_arg1 (by decide) (by decide) (by decide) (by decide), V1_arg m d main_arg1 (by decide) (by decide) (by decide) (by decide)]
theorem V6_arg2 (d : Dev nD) : V6 m d (main_arg2 : DevRef τ sig) = m (d, (main_arg2 : DevRef τ sig)) := by
  rw [V6_arg m d main_arg2 (by decide) (by decide), V5_ne m d main_arg2 (by decide), V4_ne m d main_arg2 (by decide),
    V3_arg m d main_arg2 (by decide) (by decide) (by decide) (by decide), V1_arg m d main_arg2 (by decide) (by decide) (by decide) (by decide)]

/-- The result: the last running minimum, as a float. -/
theorem V6_v9 (d : Dev nD) : V6 m d (main_v9 : DevRef τ sig)
    = (fun _ => FloatOps.sitofp .f32 (Y m d t2_7) : S_.Idx → Elt F .f32) := by
  unfold V6 postOps
  simp only [StableHlo.after_cons, StableHlo.after_nil]
  rw [StableHlo.unary_result, StableHlo.reshape_result, V5_out m d]
  rfl

/-- The table the SparseCore call reads: the packed words in one row. -/
theorem tbl_eq (d : Dev nD) : tbl m d = (shapeCast S3200 (X m d) shapeCasts_S1x3200_S3200 : S3200.Idx → Elt F .i32) := by
  unfold tbl V3 midOps
  simp only [StableHlo.after_cons, StableHlo.after_nil]
  rw [StableHlo.result_of_writes_ne _ _ main_v5 main_v3 rfl (by decide), StableHlo.result_of_writes_ne _ _ main_v4 main_v3 rfl (by decide), StableHlo.reshape_result, V2_out m d]
  rfl

/-- The words of the positive adjacency: the second argument in one row. -/
theorem pos_eq (d : Dev nD) : pos m d = (shapeCast S6400000 (m (d, (main_arg1 : DevRef τ sig)) : S2x3200000.Idx → Elt F .i32) shapeCasts_S2x3200000_S6400000 : S6400000.Idx → Elt F .i32) := by
  unfold pos V3 midOps
  simp only [StableHlo.after_cons, StableHlo.after_nil]
  rw [StableHlo.result_of_writes_ne _ _ main_v5 main_v4 rfl (by decide), StableHlo.reshape_result, StableHlo.result_of_writes_ne _ _ main_v3 main_arg1 rfl (by decide), V2_ne m d main_arg1 (by decide),
    V1_arg m d main_arg1 (by decide) (by decide) (by decide) (by decide)]
  rfl

/-- The words of the negative adjacency: the third argument in one row. -/
theorem neg_eq (d : Dev nD) : neg m d = (shapeCast S6400000 (m (d, (main_arg2 : DevRef τ sig)) : S2x3200000.Idx → Elt F .i32) shapeCasts_S2x3200000_S6400000 : S6400000.Idx → Elt F .i32) := by
  unfold neg V3 midOps
  simp only [StableHlo.after_cons, StableHlo.after_nil]
  rw [StableHlo.reshape_result, StableHlo.result_of_writes_ne _ _ main_v4 main_arg2 rfl (by decide), StableHlo.result_of_writes_ne _ _ main_v3 main_arg2 rfl (by decide), V2_ne m d main_arg2 (by decide),
    V1_arg m d main_arg2 (by decide) (by decide) (by decide) (by decide)]
  rfl

end Cert.Proof.OfKernelIdeal

end
-- ==== Proof.LaunchIdeal.lean ====
/-
  @main on the TensorCore, and the program's run: from any launch memory whose adjacency words are below the table's
  size, every weakly fair execution ends with the three arguments unchanged, every semaphore at zero, and the result
  at the float of the last running minimum.
-/
module

public import proofs.«01_k».proof.Proof.CallIdeal
public import proofs.«01_k».proof.Proof.SegsIdeal
public import proofs.«01_k».proof.Proof.ValuesIdeal

@[expose] public section

set_option maxRecDepth 65536

noncomputable section

namespace Cert.Proof.OfKernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (nullary unary binary reshape TRef after seq held)

variable {F : FTy → Type} [FloatOps F]

local notation "𝕄" => MM F

/-! ## The ghost state of the launch -/

/-- The two pipelines' ghost state at device `d`: their cells', and their duties' tokens. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- The launch's element of the algebra: the handshakes' and the pipelines' launch states. -/
def u₀ : UU := (initOf (K (F := F)).hsCells (K (F := F)).hsToks, (initOf (Pipeline.cells cfgs cellOf_inj) (Pipeline.launchToks cfgs cellOf_inj), 1))

theorem ownU_split (a : UH) (b : UP) : (ownU (a, b) : sProp 𝕄) ⊢ iprop(BI.own (EH a) ∗ BI.own ((embR : Emb UP 𝕄) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

variable (m : (ℓ : Loc nD τ sig) → Buf (Elt F) ℓ) (ρ : Dev nD → PrngReg)

/-- The SparseCore call's payloads, at the contents @main brings it. -/
abbrev PP : (K (F := F)).Pay (nD := nD) (Val := Elt F) (Name := ℕ) (U := UU) := P (F := F) (tbl m) (pos m) (neg m)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  have hG : (BI.own ((embR : Emb UP 𝕄) (initOf (Pipeline.cells cfgs cellOf_inj) (Pipeline.launchToks cfgs cellOf_inj), 1)) : sProp 𝕄)
      ⊢ |==> bigSep Finset.univ (G (F := F)) := by
    unfold G
    rw [bigSep_sep']
    exact Pipeline.fund_ghost (Pipeline.pin (pcfgs (F := F)) adm) EP cellOf_inj
  unfold u₀
  iintro Hu
  ihave H := (ownU_split _ _) $$ Hu
  icases H with ⟨HH, HP⟩
  imod hG $$ HP with HG
  imodintro
  isplitl [HH]; · iexact HH
  isplitl [HG]; · iexact HG
  iapply (SparseCore.ent (show (iprop(emp) : sProp 𝕄) ⊢ bigSep Finset.univ fun thr : Thread nD τ => bigSep Finset.univ fun q : Fin 1 => (PP m).x q thr from by
    have : (fun thr : Thread nD τ => (bigSep Finset.univ fun q : Fin 1 => (PP m).x q thr : sProp 𝕄)) = fun _ => iprop(emp) := by
      funext thr
      exact bigSep_univ_of_subsingleton (0 : Fin 1)
    rw [this]; exact BIBase.Entails.of_eq (bigSep_emp_const _).symm))
  iempintro

/-! ## The TensorCore's debt out of its state -/

theorem tcSt_eq (d : Dev nD) (n : ℕ) : ∃ (b : ℕ) (R : sProp 𝕄), ((K (F := F)).tcSt EH d n : sProp 𝕄) = iprop(debt (F := F) n b d ∗ R) :=
  ⟨_, _, rfl⟩

/-! ## A TensorCore kernel inside @main -/

theorem pin_inj : Function.Injective (Pipeline.cellOf (nD := nD) (τ := τ) (Pipeline.pin (pcfgs (F := F)) adm)) := cellOf_inj

/-- A TensorCore kernel's region, entered from @main. -/
theorem region_wp [∀ e, Nonempty (Elt F e)] {VV n b XX YY} {p : Fin 2}
    (R : Pipeline.RegionSeg (pcfgs (F := F)) adm (pdats VV n b XX YY) none defs₀ 𝒱₀ (K (F := F)).L (K (F := F)).lev p) (d : Dev nD) (Φ : PUnit.{1} → sProp 𝕄) :
    iprop((iprop(boundary (d.tc : Thread nD τ) ∗ R.post d) -∗ Φ ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (Prog.lift (.customCall (SparseCore.inner (Pipeline.entry p)) ())) Φ := by
  have h1 := Pipeline.RegionSeg.wp (pcfgs (F := F)) adm (pdats VV n b XX YY) none pin_inj EP defs₀ 𝒱₀ (K (F := F)).L (K (F := F)).lev R d none (by intro _ h; cases h)
    (fun _ => Prog.ret PUnit.unit) Φ
  rw [wp_ret] at h1
  have h2 := (K (F := F)).wp_liftProg (D (F := F)) 𝒱 (T d : Thread nD τ) Set.univ none (.op (.customCall (Pipeline.entry p) ()) (fun _ => .ret PUnit.unit)) Φ
  refine BIBase.Entails.trans (BIBase.Entails.trans ?_ h1) h2
  iintro ⟨HΦ, Hrest⟩
  isplitl [HΦ]
  · iintro H
    imodintro
    iapply HΦ; iexact H
  iexact Hrest

/-! ## @main -/

theorem main_eq (d : Dev nD) : main (F := F) d = (seq preOps >>= fun _ => Prog.lift (.customCall (SparseCore.inner (Pipeline.entry 0)) ()) >>= fun _ =>
    seq midOps >>= fun _ => (K (F := F)).run d 0 >>= fun _ => Prog.lift (.customCall (SparseCore.inner (Pipeline.entry 1)) ()) >>= fun _ =>
    seq postOps >>= fun _ => pure ⟨⟩) := rfl

theorem pre_sub : ∀ op ∈ (preOps : List (HloOp τ sig (Elt F))), op.bufs ⊆ ucRefs := by
  intro op hop
  simp only [preOps, List.mem_cons, List.not_mem_nil, or_false] at hop
  rcases hop with rfl | rfl | rfl | rfl
  · show ({(main_c : DevRef τ sig)} : Finset (DevRef τ sig)) ⊆ ucRefs; decide +kernel
  · show ({(main_c : DevRef τ sig), (main_call0_v0 : DevRef τ sig)} : Finset (DevRef τ sig)) ⊆ ucRefs; decide +kernel
  · show ({(main_arg0 : DevRef τ sig), (main_call0_v0 : DevRef τ sig), (main_v0 : DevRef τ sig)} : Finset (DevRef τ sig)) ⊆ ucRefs; decide +kernel
  · show ({(main_v0 : DevRef τ sig), (main_v1 : DevRef τ sig)} : Finset (DevRef τ sig)) ⊆ ucRefs; decide +kernel
theorem mid_sub : ∀ op ∈ (midOps : List (HloOp τ sig (Elt F))), op.bufs ⊆ ucRefs := by
  intro op hop
  simp only [midOps, List.mem_cons, List.not_mem_nil, or_false] at hop
  rcases hop with rfl | rfl | rfl
  · show ({(main_v2 : DevRef τ sig), (main_v3 : DevRef τ sig)} : Finset (DevRef τ sig)) ⊆ ucRefs; decide +kernel
  · show ({(main_arg1 : DevRef τ sig), (main_v4 : DevRef τ sig)} : Finset (DevRef τ sig)) ⊆ ucRefs; decide +kernel
  · show ({(main_arg2 : DevRef τ sig), (main_v5 : DevRef τ sig)} : Finset (DevRef τ sig)) ⊆ ucRefs; decide +kernel
theorem post_sub : ∀ op ∈ (postOps : List (HloOp τ sig (Elt F))), op.bufs ⊆ ucRefs := by
  intro op hop
  simp only [postOps, List.mem_cons, List.not_mem_nil, or_false] at hop
  rcases hop with rfl | rfl
  · show ({(main_v7 : DevRef τ sig), (main_v8 : DevRef τ sig)} : Finset (DevRef τ sig)) ⊆ ucRefs; decide +kernel
  · show ({(main_v8 : DevRef τ sig), (main_v9 : DevRef τ sig)} : Finset (DevRef τ sig)) ⊆ ucRefs; decide +kernel

theorem pre_fresh : ∀ op ∈ (preOps : List (HloOp τ sig (Elt F))), op.fresh = ∅ := by
  intro op hop
  simp only [preOps, List.mem_cons, List.not_mem_nil, or_false] at hop
  rcases hop with rfl | rfl | rfl | rfl <;> rfl
theorem mid_fresh : ∀ op ∈ (midOps : List (HloOp τ sig (Elt F))), op.fresh = ∅ := by
  intro op hop
  simp only [midOps, List.mem_cons, List.not_mem_nil, or_false] at hop
  rcases hop with rfl | rfl | rfl <;> rfl
theorem post_fresh : ∀ op ∈ (postOps : List (HloOp τ sig (Elt F))), op.fresh = ∅ := by
  intro op hop
  simp only [postOps, List.mem_cons, List.not_mem_nil, or_false] at hop
  rcases hop with rfl | rfl <;> rfl

/-- The four arrays of the SparseCore call. -/
abbrev callRefs : Finset (DevRef τ sig) := {(main_v3 : DevRef τ sig), (main_v4 : DevRef τ sig), (main_v5 : DevRef τ sig), (main_v6 : DevRef τ sig)}

theorem callRefs_sub : callRefs ⊆ ucRefs := by decide +kernel

/-- The unscoped buffers: the call's four arrays, and the rest. -/
theorem held_call (d : Dev nD) (W : Valuation τ sig (Elt F)) : (held (d.tc : Thread nD τ) ucRefs W : sProp 𝕄)
    = iprop(((l3 d ↦{fullShare} W (main_v3 : DevRef τ sig)) ∗ (l4 d ↦{fullShare} W (main_v4 : DevRef τ sig)) ∗ (l5 d ↦{fullShare} W (main_v5 : DevRef τ sig))
        ∗ (l6 d ↦{fullShare} W (main_v6 : DevRef τ sig))) ∗ held (d.tc : Thread nD τ) (ucRefs \ callRefs) W) := by
  rw [StableHlo.held_sub_split (d.tc : Thread nD τ) callRefs_sub]
  congr 1
  unfold StableHlo.held
  rw [SparseCore.bigSep_insert' (by decide), SparseCore.bigSep_insert' (by decide), SparseCore.bigSep_insert' (by decide), bigSep_singleton]

theorem two (Φ : Fin 2 → sProp 𝕄) : (bigSep Finset.univ Φ : sProp 𝕄) = iprop(Φ 0 ∗ Φ 1) := by
  rw [show (Finset.univ : Finset (Fin 2)) = {0, 1} by decide, SparseCore.bigSep_insert' (by decide), bigSep_singleton]

/-- The packing kernel's region in @main, before the SparseCore call, and the reducing kernel's, after it. -/
def regA (b : ℕ) := reg0 (F := F) (fun c r => V1 m c r) 0 b (X m) (Y m) (fun c r => V2 m c r) (X_eq m) (V2_out m) (V2_ne m)
def regB (b : ℕ) := reg2 (F := F) (fun c r => V4 m c r) 1 b (X m) (Y m) (fun c r => V5 m c r) (Y_zero m) (Y_next m) (V5_out m) (V5_ne m)

/-- What @main ends with on device `d`: every unscoped buffer at its final contents. -/
abbrev FIN (d : Dev nD) : sProp 𝕄 := held (d.tc : Thread nD τ) ucRefs (V6 m d)

theorem rest_eq (d : Dev nD) : (held (d.tc : Thread nD τ) (ucRefs \ callRefs) (V4 m d) : sProp 𝕄) = held (d.tc : Thread nD τ) (ucRefs \ callRefs) (V3 m d) := by
  refine StableHlo.held_congr (d.tc : Thread nD τ) fun b hb => ?_
  unfold V4
  refine Function.update_of_ne (fun e => ?_) _ _
  subst e
  exact absurd hb (by decide +kernel)

theorem call_fwd (d : Dev nD) : (held (d.tc : Thread nD τ) ucRefs (after midOps (V2 m d)) : sProp 𝕄)
      ⊢ iprop(((l3 d ↦{fullShare} tbl m d) ∗ (l4 d ↦{fullShare} pos m d) ∗ (l5 d ↦{fullShare} neg m d)
        ∗ (l6 d ↦{fullShare} V3 m d (main_v6 : DevRef τ sig))) ∗ held (d.tc : Thread nD τ) (ucRefs \ callRefs) (V3 m d)) :=
  BIBase.Entails.of_eq (held_call d (V3 m d))

theorem call_back (d : Dev nD) : iprop(((l3 d ↦{fullShare} tbl m d) ∗ (l4 d ↦{fullShare} pos m d) ∗ (l5 d ↦{fullShare} neg m d)
        ∗ (l6 d ↦{fullShare} counts (tbl m d) (pos m d) (neg m d))) ∗ held (d.tc : Thread nD τ) (ucRefs \ callRefs) (V3 m d))
      ⊢ (held (d.tc : Thread nD τ) ucRefs (V4 m d) : sProp 𝕄) := by
  rw [held_call d (V4 m d), V4_out m d, V4_ne m d main_v3 (by decide), V4_ne m d main_v4 (by decide), V4_ne m d main_v5 (by decide), rest_eq]
  unfold cnt
  exact BIBase.Entails.rfl

theorem regA_pre (b : ℕ) (d : Dev nD) : iprop(held (d.tc : Thread nD τ) ucRefs (V1 m d) ∗ debt (F := F) 0 b d) ⊢ (regA m b).pre d := by
  rw [← unscopedBufs_held]; exact BIBase.Entails.rfl
theorem regA_post (b : ℕ) (d : Dev nD) : (regA m b).post d ⊢ iprop(held (d.tc : Thread nD τ) ucRefs (V2 m d) ∗ debt (F := F) 0 b d) := by
  rw [← unscopedBufs_held]; exact BIBase.Entails.rfl
theorem regB_pre (b : ℕ) (d : Dev nD) : iprop(held (d.tc : Thread nD τ) ucRefs (V4 m d) ∗ debt (F := F) 1 b d) ⊢ (regB m b).pre d := by
  rw [← unscopedBufs_held]; exact BIBase.Entails.rfl
theorem regB_post (b : ℕ) (d : Dev nD) : (regB m b).post d ⊢ iprop(held (d.tc : Thread nD τ) ucRefs (V5 m d) ∗ debt (F := F) 1 b d) := by
  rw [← unscopedBufs_held]; exact BIBase.Entails.rfl

/-- @main on device `d`'s TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  obtain ⟨b0, R0, e0⟩ := tcSt_eq (F := F) d 0
  obtain ⟨b1, R1, e1⟩ := tcSt_eq (F := F) d 1
  unfold SparseCore.Cfg.tcRes SparseCore.Cfg.tcEnd G
  rw [show (unscopedBufs d (fun b => m ((T d : Thread nD τ).loc b)) : sProp 𝕄) = held (d.tc : Thread nD τ) ucRefs (V0 m d) from unscopedBufs_held d (V0 m d),
    two, two, main_eq]
  iintro ⟨#Hctx, Hst, ⟨Hb, Hh, Hts, -⟩, ⟨Hg0, Hg1⟩, ⟨Ht0, Ht1⟩⟩
  ihave #Hlev := ((K (F := F)).ctx_levAts κ) $$ Hctx
  -- the padding and its reshape
  iapply (StableHlo.wp_seq 𝒱 none Set.univ d ucRefs _ preOps pre_sub pre_fresh (V0 m d)) $$ [Hb Hh]
  · isplitl [Hb]; · iexact Hb
    iexact Hh
  iintro ⟨Hb, Hh⟩
  -- the packing kernel
  rw [wp_bind]
  ihave Hst := (SparseCore.ent (BIBase.Entails.of_eq e0)) $$ Hst
  icases Hst with ⟨Hd, HR⟩
  iapply (region_wp (regA m b0) d _)
  isplitr [Hb Hh Hd Hg0 Ht0]
  · iintro ⟨Hb, Hpost⟩
    ihave Hpost := (regA_post m b0 d) $$ Hpost
    icases Hpost with ⟨Hh, Hd⟩
    -- the reshapes
    iapply (StableHlo.wp_seq 𝒱 none Set.univ d ucRefs _ midOps mid_sub mid_fresh (V2 m d)) $$ [Hb Hh]
    · isplitl [Hb]; · iexact Hb
      iexact Hh
    iintro ⟨Hb, Hh⟩
    ihave Hh := (call_fwd m d) $$ Hh
    icases Hh with ⟨H4, Hrest⟩
    ihave H4 := (call_in (tbl m) (pos m) (neg m) d _) $$ H4
    icases H4 with ⟨Hk, Hcall⟩
    -- the SparseCore call
    rw [wp_bind]
    iapply ((K (F := F)).wp_run (D (F := F)) 𝒱 (EH := EH) (P := PP m) κ d 0)
    isplitr; · iexact Hctx
    isplitl [Hd HR]
    · iapply (SparseCore.ent (BIBase.Entails.of_eq e0.symm))
      isplitl [Hd]; · iexact Hd
      iexact HR
    isplitl [Hcall]; · iexact Hcall
    iintro ⟨Hst, Hdn⟩
    ihave H4 := (call_out (tbl m) (pos m) (neg m) d) $$ [Hk Hdn]
    · isplitl [Hk]; · iexact Hk
      iexact Hdn
    ihave Hh := (call_back m d) $$ [H4 Hrest]
    · isplitl [H4]; · iexact H4
      iexact Hrest
    -- the reducing kernel
    ihave Hst := (SparseCore.ent (show (K (F := F)).tcSt EH d ((0 : Fin 1).val + 1) ⊢ iprop(debt (F := F) 1 b1 d ∗ R1) from BIBase.Entails.of_eq e1)) $$ Hst
    icases Hst with ⟨Hd, HR⟩
    rw [wp_bind]
    iapply (region_wp (regB m b1) d _)
    isplitr [Hb Hh Hd Hg1 Ht1]
    · iintro ⟨Hb, Hpost⟩
      ihave Hpost := (regB_post m b1 d) $$ Hpost
      icases Hpost with ⟨Hh, Hd⟩
      iapply (StableHlo.wp_seq 𝒱 none Set.univ d ucRefs _ postOps post_sub post_fresh (V5 m d)) $$ [Hb Hh]
      · isplitl [Hb]; · iexact Hb
        iexact Hh
      iintro ⟨Hb, Hh⟩
      rw [wp_pure]
      imodintro
      isplitl [Hd HR]
      · iapply (SparseCore.ent (BIBase.Entails.of_eq e1.symm))
        isplitl [Hd]; · iexact Hd
        iexact HR
      isplitl [Hh]; · iexact Hh
      isplitl [Hb]; · iexact Hb
      iexact Hts
    · isplitl [Hb]; · iexact Hb
      isplitl [Hh Hd]
      · iapply (regB_pre m b1 d)
        isplitl [Hh]; · iexact Hh
        iexact Hd
      isplitr [Hg1 Ht1]; · iexact Hlev
      isplitl [Hg1]; · iexact Hg1
      iexact Ht1
  · isplitl [Hb]; · iexact Hb
    isplitl [Hh Hd]
    · iapply (regA_pre m b0 d)
      isplitl [Hh]; · iexact Hh
      iexact Hd
    isplitr [Hg0 Ht0]; · iexact Hlev
    isplitl [Hg0]; · iexact Hg0
    iexact Ht0

/-! ## The run -/

/-- What the run ends with on device `d`: the arguments unchanged, and the result. -/
def fq (d : Dev nD) (s' : Phys nD τ sig (Elt F)) : Prop :=
  (s'.mem.mem ((T d : Thread nD τ).loc main_arg0) = m ((T d : Thread nD τ).loc main_arg0) ∧ s'.mem.mem ((T d : Thread nD τ).loc main_arg1) = m ((T d : Thread nD τ).loc main_arg1)
    ∧ s'.mem.mem ((T d : Thread nD τ).loc main_arg2) = m ((T d : Thread nD τ).loc main_arg2))
  ∧ s'.mem.mem ((T d : Thread nD τ).loc main_v9) = (fun _ => FloatOps.sitofp .f32 (Y m d t2_7) : S_.Idx → Elt F .f32)

/-- One unscoped buffer's final contents, read off the machine's state. -/
theorem read_fin (d : Dev nD) (s' : Phys nD τ sig (Elt F)) (r : Ref sig .tc) (hr : (r : DevRef τ sig) ∈ ucRefs) :
    iprop(FIN m d ∗ SI s') ⊢ (⌜s'.mem.mem ((T d : Thread nD τ).loc r) = V6 m d r⌝ : sProp 𝕄) := by
  unfold FIN
  rw [StableHlo.held_sub_split (d.tc : Thread nD τ) (Finset.singleton_subset_iff.mpr hr)]
  unfold StableHlo.held
  rw [bigSep_singleton]
  iintro ⟨⟨H, -⟩, HSI⟩
  ihave H := (SI_pointsTo_agree (st := s') (ℓ := (T d : Thread nD τ).loc r) (I := Finset.univ) (q := fullShare) (f := V6 m d r)) $$ [HSI H]
  · isplitl [HSI] <;> iassumption
  icases H with %h
  ipureintro
  exact funext fun i => h i (Finset.mem_univ i)

theorem hfin (d : Dev nD) (s' : Phys nD τ sig (Elt F)) : iprop(FIN m d ∗ SI s') ⊢ (⌜fq m d s'⌝ : sProp 𝕄) := by
  have h0 := read_fin m d s' main_arg0 (by decide +kernel)
  have h1 := read_fin m d s' main_arg1 (by decide +kernel)
  have h2 := read_fin m d s' main_arg2 (by decide +kernel)
  have h9 := read_fin m d s' main_v9 (by decide +kernel)
  iintro H
  ihave H := (persistent_entails_right h0) $$ H
  icases H with ⟨%e0, H⟩
  ihave H := (persistent_entails_right h1) $$ H
  icases H with ⟨%e1, H⟩
  ihave H := (persistent_entails_right h2) $$ H
  icases H with ⟨%e2, H⟩
  ihave H := h9 $$ H
  icases H with %e9
  ipureintro
  exact ⟨⟨e0.trans (V6_arg0 m d), e1.trans (V6_arg1 m d), e2.trans (V6_arg2 m d)⟩, e9.trans (V6_v9 m d)⟩

/-- Every device ends so, and every semaphore at zero. -/
def QC : PUnit × MemSt nD τ sig (Elt F) → Prop := fun r =>
  (∀ c : Dev nD, (r.2.mem ((T c : Thread nD τ).loc main_arg0) = m ((T c : Thread nD τ).loc main_arg0) ∧ r.2.mem ((T c : Thread nD τ).loc main_arg1) = m ((T c : Thread nD τ).loc main_arg1)
      ∧ r.2.mem ((T c : Thread nD τ).loc main_arg2) = m ((T c : Thread nD τ).loc main_arg2))
    ∧ r.2.mem ((T c : Thread nD τ).loc main_v9) = (fun _ => FloatOps.sitofp .f32 (Y m c t2_7) : S_.Idx → Elt F .f32))
  ∧ r.2.sem = fun _ => 0

/-- The program's run. -/
theorem run_main [∀ e, Nonempty (Elt F e)] (hpos : ∀ d x, (pos m d x).toNat < 100000) (hneg : ∀ d x, (neg m d x).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tbl m) (pos m) (neg m) facts hpos hneg)
    (fun q _ => match q with | 0 => SparseCore.Cfg.VecSplit.of_plain (vecSplit (tbl m) (pos m) (neg m)))
    m ρ main (G (F := F)) (FIN m) (u₀ (F := F)) (sep_elim_left.trans (hu₀ m)) (hmain m ρ) (fq m) (hfin m) (QC m) (fun _ h hz => ⟨h, hz⟩)

end Cert.Proof.OfKernelIdeal

end
-- ==== Proof.FrameIdeal.lean ====
/-
  The kernel's frame: under the precondition every adjacency word is below the table's size, so the run applies.
-/
module

public import proofs.«01_k».proof.Proof.LaunchIdeal
public import proofs.«01_k».proof.Proof.Ranges
public import proofs.«01_k».proof.Defs

@[expose] public section

set_option maxRecDepth 65536

noncomputable section

namespace Cert.Proof.OfKernelIdeal

open Cert.KernelIdeal Cert.KernelIdeal.Gen
open Idealize.ShloMosaic Idealize.ShloMosaic.TcCoe Idealize.SL.Sem
open Idealize.ShloMosaic.SparseCore (T)

variable {F : FTy → Type} [FloatOps F]

/-- Under the precondition the positive adjacency's words are below 100000, -/
theorem pos_lt (m : (ℓ : Loc nD τ sig) → Buf (Elt F) ℓ)
    (h : ∀ (d : Dev nD) (i : S2x3200000.Idx), ((m (d, (main_arg1 : DevRef τ sig)) : S2x3200000.Idx → BitVec 32) i).toNat < 100000) (d : Dev nD) (x : S6400000.Idx) :
    (pos m d x).toNat < 100000 := by
  rw [pos_eq]; exact h d _

/-- and the negative adjacency's. -/
theorem neg_lt (m : (ℓ : Loc nD τ sig) → Buf (Elt F) ℓ)
    (h : ∀ (d : Dev nD) (i : S2x3200000.Idx), ((m (d, (main_arg2 : DevRef τ sig)) : S2x3200000.Idx → BitVec 32) i).toNat < 100000) (d : Dev nD) (x : S6400000.Idx) :
    (neg m d x).toNat < 100000 := by
  rw [neg_eq]; exact h d _

/-- `Cert.quiescent_KernelIdeal` (Defs.lean): the program runs, its arguments end unchanged, its semaphores at zero. -/
theorem frame : Cert.quiescent_KernelIdeal := fun m ρ hpre =>
  (θ_run Cert.KernelIdeal.defs _ _).mono (fun _ h => ⟨fun c => (h.1 c).1, h.2⟩)
    (run_main (F := Ideal) m ρ (pos_lt m fun d => (Cert.Proof.indices_elements _ _ _ (hpre d)).1) (neg_lt m fun d => (Cert.Proof.indices_elements _ _ _ (hpre d)).2))

/-- `Cert.quiescent_KernelIdeal_pre_ranges` (Defs.lean): the same, of the inputs the value claim speaks of. -/
theorem frame_ranges : Cert.quiescent_KernelIdeal_pre_ranges := fun m ρ hpre =>
  (θ_run Cert.KernelIdeal.defs _ _).mono (fun _ h => ⟨fun c => (h.1 c).1, h.2⟩)
    (run_main (F := Ideal) m ρ (pos_lt m fun d => (Cert.Proof.ranges_elements _ _ _ (hpre d)).2.1) (neg_lt m fun d => (Cert.Proof.ranges_elements _ _ _ (hpre d)).2.2))

end Cert.Proof.OfKernelIdeal

end
-- ==== Proof.RefFrame.lean ====
/-
  The reference's frame: it runs, its arguments end unchanged, and it declares no semaphore.
-/
module

public import Idealize.ShloMosaic.Lib.Quiescent
public import proofs.«01_k».proof.Proof.Gen.ReferenceIdeal.Run
public import proofs.«01_k».proof.Proof.Gen.Kernel
public import proofs.«01_k».proof.Proof.Gen.KernelIdeal
public import proofs.«01_k».proof.Proof.Gen.Pre_ranges
public import proofs.«01_k».proof.Defs

@[expose] public section

noncomputable section

namespace Cert.Proof

open Idealize.ShloMosaic Idealize.SL.Sem Cert.ReferenceIdeal.Gen

/-- `Cert.quiescent_ReferenceIdeal` (Defs.lean). -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.quiescent_ReferenceIdeal_pre_ranges` (Defs.lean): the same, of the inputs the value claim speaks of. -/
theorem frame_reference_ranges : Cert.quiescent_ReferenceIdeal_pre_ranges := fun m ρ _ => frame_reference m ρ trivial

end Cert.Proof

end
-- ==== Proof.RefDivide.lean ====
/-
  The reference's threshold step on one number: the rounded floor-division of a value of [0, 1) by the constant 0.50001 is
  1 from the constant on and 0 below it.
-/
module

public import Idealize.ShloMosaic.Lib.IdealHost
public import Mathlib.Tactic.NormNum
public import Mathlib.Tactic.Linarith
public import Mathlib.Tactic.FieldSimp
public import Mathlib.Tactic.Ring

@[expose] public section

noncomputable section

namespace Cert.Proof

open Idealize.ShloMosaic

/-- The constant's value. -/
def thr : ℝ := 8388776 / 16777216

theorem thr_pos : 0 < thr := by unfold thr; norm_num

theorem one_lt_two_thr : 1 < 2 * thr := by unfold thr; norm_num

/-- The pattern `0x3F0000A8` denotes that real number. -/
theorem ofBits_thr : Ideal.ofBits .f32 0x3F0000A8#32 = ((thr : ℝ) : EReal) := by
  unfold thr
  simp [Ideal.ofBits, Ideal.ieee, -EReal.coe_mul]
  norm_num

/-- The remainder by the constant, on the reals of [0, 1). -/
theorem remf_thr {x : ℝ} (h0 : 0 ≤ x) (h1 : x < 1) :
    Ideal.remf (x : EReal) (thr : EReal) = ((if thr ≤ x then x - thr else x : ℝ) : EReal) := by
  have hc := thr_pos
  have h2 := one_lt_two_thr
  show (if thr = 0 then (⊥ : EReal) else ((x - thr * (Ideal.truncInt (x / thr) : ℝ) : ℝ) : EReal)) = _
  rw [if_neg hc.ne']
  congr 1
  unfold Ideal.truncInt
  rw [if_pos (div_nonneg h0 hc.le)]
  by_cases h : thr ≤ x
  · rw [if_pos h]
    have : ⌊x / thr⌋ = 1 := by
      rw [Int.floor_eq_iff]
      constructor
      · rw [le_div_iff₀ hc]; simpa using h
      · rw [div_lt_iff₀ hc]; push_cast; linarith
    rw [this]; simp
  · rw [if_neg h]
    have : ⌊x / thr⌋ = 0 := by
      rw [Int.floor_eq_iff]
      constructor
      · rw [le_div_iff₀ hc]; simpa using h0
      · rw [div_lt_iff₀ hc]; push_cast; linarith
    rw [this]; simp

/-- The reference's floor-division of one number by the constant `c`, as its operations compose, rounded. -/
def quot (c x : EReal) : EReal :=
  Ideal.liftRound Ideal.roundHalfAway
    (Scalar.select (IntOp.andi (Ideal.cmp .une (Ideal.remf x c) 0) (Ideal.cmp .une (Ideal.sign c) (Ideal.sign (Ideal.remf x c))))
      (Ideal.div (Scalar.select (Ideal.cmp .oeq c 0) x (x - Ideal.remf x c)) c - 1)
      (Ideal.div (Scalar.select (Ideal.cmp .oeq c 0) x (x - Ideal.remf x c)) c))

/-- A remainder that is not negative never takes the correction: it is zero, or its sign is the constant's. -/
theorem no_correction {r : ℝ} (hr : 0 ≤ r) :
    IntOp.andi (Ideal.cmp .une (r : EReal) 0) (Ideal.cmp .une (Ideal.sign (thr : EReal)) (Ideal.sign (r : EReal))) = 0#1 := by
  rcases hr.eq_or_lt with h | h
  · have e : Ideal.cmp .une (r : EReal) 0 = 0#1 := by
      unfold Ideal.cmp; rw [← h]; simp
    rw [e]; exact BitVec.zero_and
  · have e : Ideal.cmp .une (Ideal.sign (thr : EReal)) (Ideal.sign (r : EReal)) = 0#1 := by
      have h1 : Ideal.sign (thr : EReal) = ((SignType.sign thr : ℝ) : EReal) := rfl
      have h2 : Ideal.sign (r : EReal) = ((SignType.sign r : ℝ) : EReal) := rfl
      unfold Ideal.cmp
      rw [h1, h2, sign_pos thr_pos, sign_pos h]; simp
    rw [e]; exact BitVec.and_zero

/-- On [0, 1) the rounded quotient is 1 from the constant on and 0 below. -/
theorem quot_eq {x : ℝ} (h0 : 0 ≤ x) (h1 : x < 1) :
    quot (thr : EReal) (x : EReal) = ((if thr ≤ x then 1 else 0 : ℝ) : EReal) := by
  have hc := thr_pos
  have hr : (0 : ℝ) ≤ (if thr ≤ x then x - thr else x : ℝ) := by split <;> linarith
  have hz : Ideal.cmp .oeq (thr : EReal) 0 = 0#1 := by
    unfold Ideal.cmp
    have : ¬ ((thr : EReal) = 0) := by exact_mod_cast hc.ne'
    simp [this]
  have hd : Ideal.div ((x : EReal) - ((if thr ≤ x then x - thr else x : ℝ) : EReal)) (thr : EReal)
      = ((if thr ≤ x then 1 else 0 : ℝ) : EReal) := by
    have hn : ¬ ((thr : EReal) = 0) := by exact_mod_cast hc.ne'
    unfold Ideal.div
    rw [if_neg hn, ← EReal.coe_sub, ← EReal.coe_inv, ← EReal.coe_mul]
    congr 1
    split
    · field_simp; ring
    · simp
  unfold quot
  rw [remf_thr h0 h1, no_correction hr, hz]
  show Ideal.liftRound Ideal.roundHalfAway (Ideal.div ((x : EReal) - _) _) = _
  rw [hd]
  show (((Ideal.roundHalfAway _ : ℤ) : ℝ) : EReal) = _
  congr 1
  unfold Ideal.roundHalfAway
  split
  · have : ⌊(1 : ℝ) + 1 / 2⌋ = 1 := by rw [Int.floor_eq_iff]; norm_num
    rw [this]; norm_num
  · have : ⌊(0 : ℝ) + 1 / 2⌋ = 0 := by rw [Int.floor_eq_iff]; norm_num
    rw [this]; norm_num

end Cert.Proof

end
-- ==== Proof.Meaning.lean ====
/-
  What both programs compute, in natural numbers: a variable is on when its value reaches the constant; a clause's count is
  the number of its positive entries whose variable is on plus the number of its negative entries whose variable is off. The
  result is the least count.
-/
module

public import proofs.«01_k».proof.Proof.Add
public import proofs.«01_k».proof.Proof.RefDivide

@[expose] public section

noncomputable section

namespace Cert.Proof

open Idealize.ShloMosaic Cert.Proof.Add

/-- 1 when variable `v` reaches the constant, else 0. -/
def on (x : (V1 100000).Idx → EReal) (v : ℕ) : ℕ := if (thr : EReal) ≤ x (at1 v) then 1 else 0

theorem on_le (x : (V1 100000).Idx → EReal) (v : ℕ) : on x v ≤ 1 := by unfold on; split <;> decide

/-- What entry `e` of a flattened list (clause ids, then variable ids) adds to clause `c`'s count, its variable worth `lit`. -/
def entry (lit : ℕ → ℕ) (adj : (V1 6400000).Idx → BitVec 32) (c e : ℕ) : ℕ :=
  if (adj (at1 e)).toNat = c then lit (adj (at1 (3200000 + e))).toNat else 0

theorem entry_le {lit : ℕ → ℕ} (h : ∀ v, lit v ≤ 1) (adj : (V1 6400000).Idx → BitVec 32) (c e : ℕ) : entry lit adj c e ≤ 1 := by
  unfold entry; split
  · exact h _
  · exact Nat.zero_le _

/-- Clause `c`'s count. -/
def holds (x : (V1 100000).Idx → EReal) (pos neg : (V1 6400000).Idx → BitVec 32) (c : ℕ) : ℕ :=
  (∑ e ∈ Finset.range 3200000, entry (on x) pos c e) + ∑ e ∈ Finset.range 3200000, entry (fun v => 1 - on x v) neg c e

/-- A sum of numbers at most 1 is at most how many there are. -/
theorem sum_le_card (f : ℕ → ℕ) (h : ∀ e, f e ≤ 1) (n : ℕ) : ∑ e ∈ Finset.range n, f e ≤ n := by
  refine (Finset.sum_le_sum fun e _ => h e).trans ?_
  simp

/-- A count is at most the number of entries. -/
theorem holds_le (x : (V1 100000).Idx → EReal) (pos neg : (V1 6400000).Idx → BitVec 32) (c : ℕ) : holds x pos neg c ≤ 6400000 :=
  Nat.add_le_add (sum_le_card _ (entry_le (on_le x) pos c) 3200000)
    (sum_le_card _ (entry_le (fun v => Nat.sub_le 1 (on x v)) neg c) 3200000)

/-- `r` is the least of the counts `f` of the 100000 clauses. -/
def Least (f : ℕ → ℕ) (r : ℕ) : Prop := (∃ c < 100000, f c = r) ∧ ∀ c < 100000, r ≤ f c

/-- There is only one least count. -/
theorem Least.unique {f : ℕ → ℕ} {r s : ℕ} (hr : Least f r) (hs : Least f s) : r = s := by
  obtain ⟨⟨c, hc, rfl⟩, h1⟩ := hr
  obtain ⟨⟨d, hd, rfl⟩, h2⟩ := hs
  exact Nat.le_antisymm (h1 d hd) (h2 c hc)

end Cert.Proof

end
-- ==== Proof.RefPieces.lean ====
/-
  The reference's data movement read at one element: a row of an adjacency array, the index list built from it, the gather
  through in-range indices, the concatenation of two lists, and the sums a scatter adds up.
-/
module

public import proofs.«01_k».proof.Proof.Add
public import proofs.«01_k».proof.Proof.Gen.ReferenceIdeal
public import Idealize.ShloMosaic.Lib.Pipeline.Value
public import Idealize.ShloMosaic.PureOps.Ideal

@[expose] public section

set_option maxRecDepth 65536

noncomputable section

namespace Cert.Proof

open Idealize.ShloMosaic Cert.Proof.Add
open Cert.ReferenceIdeal Cert.ReferenceIdeal.Facts₀ Cert.ReferenceIdeal.Facts

variable {α : Type}

/-- Row `r` of a two-row array, entry `e`, is entry `3200000·r + e` of the array laid out in one row. -/
theorem row_apply (a : S2x3200000.Idx → α) (r : ℕ) (hr : r < 2) (hs : S2x3200000.Slices ![r, 0] S1x3200000)
    (h : S1x3200000.ShapeCasts S3200000) (h' : S2x3200000.ShapeCasts (V1 6400000)) {e : ℕ} (he : e < 3200000) :
    shapeCast S3200000 (extractStridedSlice S1x3200000 ![r, 0] a hs) h (at1 e)
      = shapeCast (V1 6400000) a h' (at1 (3200000 * r + e)) := by
  have e1 : Shape.reshapeEquiv h (at1 (N := 3200000) e) = (fun | 0 => (⟨0, Nat.one_pos⟩ : Fin 1) | 1 => (⟨e, he⟩ : Fin 3200000) : S1x3200000.Idx) := by
    refine Shape.reshapeEquiv_eq_of_rowMajor _ ?_
    rw [Shape.rowMajor_val_two, Shape.rowMajor_val_one, at1_val he]
    show 0 * _ + e = e
    omega
  have e2 : Shape.reshapeEquiv h' (at1 (N := 6400000) (3200000 * r + e)) = (fun | 0 => (⟨r, hr⟩ : Fin 2) | 1 => (⟨e, he⟩ : Fin 3200000) : S2x3200000.Idx) := by
    refine Shape.reshapeEquiv_eq_of_rowMajor _ ?_
    rw [Shape.rowMajor_val_two, Shape.rowMajor_val_one, at1_val (by omega)]
    show r * 3200000 + e = _
    omega
  show a _ = a _
  rw [e1, e2]
  congr 1
  funext b
  apply Fin.ext
  match b with
  | 0 => exact Nat.add_zero r
  | 1 => exact Nat.zero_add e

/-- The index list made of in-range numbers is those numbers: none is negative, so none is moved. -/
theorem index_apply (v : S3200000.Idx → BitVec 32) (hv : ∀ i, (v i).toNat < 100000)
    (h0 : S_.BroadcastsInDim S3200000 ![]) (h1 : S3200000.BroadcastsInDim S3200000x1 ![0]) (y : S3200000x1.Idx) :
    broadcastInDim S3200000x1 ![0] h1 (select (cmpi .slt v (broadcastInDim S3200000 ![] h0 (constantI S_ 32 0#32)))
      (addi v (broadcastInDim S3200000 ![] h0 (constantI S_ 32 100000#32))) v) y = v (at1 (y 0).val) := by
  have hy : (y 0).val < 3200000 := (y 0).isLt
  have e : ∀ i : S3200000.Idx, select (cmpi .slt v (broadcastInDim S3200000 ![] h0 (constantI S_ 32 0#32)))
      (addi v (broadcastInDim S3200000 ![] h0 (constantI S_ 32 100000#32))) v i = v i := by
    intro i
    have hc : (v i).slt 0#32 = false := by
      have := hv i
      rw [BitVec.slt_eq_decide]
      simp only [decide_eq_false_iff_not, not_lt]
      rw [show (0#32 : BitVec 32).toInt = 0 from rfl, BitVec.toInt_eq_toNat_of_lt (by omega)]
      omega
    show Scalar.select (BitVec.ofBool ((v i).slt 0#32)) _ _ = _
    rw [hc]; rfl
  have hs : ∀ s : S3200000.Idx → BitVec 32, broadcastInDim S3200000x1 ![0] h1 s y = s (at1 (y 0).val) := by
    intro s
    unfold broadcastInDim
    congr 1
    funext a
    obtain rfl : a = 0 := Subsingleton.elim _ _
    apply Fin.ext
    rw [dif_neg (by decide), at1_val hy]
    rfl
  rw [hs, e]

/-- The index of a one-column array that stands at a list's index. -/
def column {N : ℕ} (y : (V1 N).Idx) : (⟨2, ![N, 1]⟩ : Shape).Idx := fun | 0 => y 0 | 1 => (⟨0, Nat.one_pos⟩ : Fin 1)

/-- A gather of single elements through in-range indices reads the element each index names. -/
theorem gather_apply (q : S100000.Idx → α) (idx : S3200000x1.Idx → BitVec 32) (hidx : ∀ y, (idx y).toNat < 100000)
    (y : S3200000.Idx) :
    Host.gather gather_S100000_S3200000x1_S3200000_n_0_n_n_0_1_1 q idx y
      = q (at1 (idx (column y)).toNat) := by
  unfold Host.gather
  congr 1
  funext a
  obtain rfl : a = 0 := Subsingleton.elim _ _
  apply Fin.ext
  rw [at1_val (hidx _)]
  show GatherDims.start _ y idx 0 + GatherDims.batchCoord _ y 0 + GatherDims.offCoord _ y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S3200000x1_S3200000_n_0_n_n_0_1_1.startIndexMap from List.mem_singleton.mpr rfl)]
  have hs : gather_S100000_S3200000x1_S3200000_n_0_n_n_0_1_1.siIdx y ⟨List.idxOf (0 : Fin 1) gather_S100000_S3200000x1_S3200000_n_0_n_n_0_1_1.startIndexMap,
      List.idxOf_lt_length_iff.2 (List.mem_singleton.mpr rfl)⟩ = (column y) := by
    funext b
    apply Fin.ext
    match b with
    | 0 => rfl
    | 1 => rfl
  rw [hs]
  have h := hidx (column y)
  rw [BitVec.toInt_eq_toNat_of_lt (by omega)]
  show min ((idx _).toNat : ℤ).toNat 99999 = _
  omega

/-- Two lists of 3200000, one after the other: the first list at its positions. -/
theorem concat_left (x y : S3200000.Idx → α) (h : Shape.Concatenates [S3200000, S3200000] S6400000 0) {e : ℕ} (he : e < 3200000) :
    concatenate S6400000 0 [⟨S3200000, x⟩, ⟨S3200000, y⟩] h (at1 e) = x (at1 e) := by
  refine concatenate_pair_apply_left 0 x y h _ rfl _ fun b => ?_
  obtain rfl : b = 0 := Subsingleton.elim _ _
  rw [at1_val he]
  exact (at1_val (N := 6400000) (by omega) 0).symm

/-- … and the second list after them. -/
theorem concat_right (x y : S3200000.Idx → α) (h : Shape.Concatenates [S3200000, S3200000] S6400000 0) {e : ℕ} (he : e < 3200000) :
    concatenate S6400000 0 [⟨S3200000, x⟩, ⟨S3200000, y⟩] h (at1 (3200000 + e)) = y (at1 e) := by
  refine concatenate_pair_apply_right 0 x y h _ rfl rfl _ (fun b hb => ?_) ?_
  · exact absurd (Subsingleton.elim _ _) hb
  · have h1 : ((at1 (N := 6400000) (3200000 + e) : S6400000.Idx) 0).val = 3200000 + e := at1_val (by omega) 0
    have h2 : ((at1 (N := 3200000) e : S3200000.Idx) 0).val = e := at1_val he 0
    rw [h1]
    exact (congrArg (· + 3200000) h2).trans (Nat.add_comm _ _)

/-- A sum over the indices of a one-dimensional array is the sum over its positions. -/
theorem sum_at1 {M : Type} [AddCommMonoid M] {N : ℕ} [NeZero N] (f : (V1 N).Idx → M) :
    ∑ j, f j = ∑ n ∈ Finset.range N, f (at1 n) := by
  refine Finset.sum_nbij' (fun j => (j 0).val) (fun n => at1 n) (fun j _ => Finset.mem_range.2 (j 0).isLt) (fun _ _ => Finset.mem_univ _)
    (fun j _ => (eq_at1 j _ rfl).symm) (fun n hn => at1_val (Finset.mem_range.1 hn) 0) (fun j _ => by rw [← eq_at1 j _ rfl])

/-- Where update `j` of the scatter lands: at the element its index names. -/
theorem scatter_at (idx : S6400000x1.Idx → BitVec 32) (hidx : ∀ y, (idx y).toNat < 100000) (j : S6400000.Idx) :
    ScatterDims.resultIdx? scatter_S100000_S6400000x1_S6400000_n_0_0_1 j idx
      = some (at1 (idx (column j)).toNat) := by
  have hw : ScatterDims.window scatter_S100000_S6400000x1_S6400000_n_0_0_1 j 0 = 0 := by
    unfold ScatterDims.window
    rw [dif_neg fun h => (of_decide_eq_true (List.mem_filter.1 h).2) (List.mem_singleton.2 rfl)]
  have hs : scatter_S100000_S6400000x1_S6400000_n_0_0_1.siIdx j ⟨List.idxOf (0 : Fin 1) scatter_S100000_S6400000x1_S6400000_n_0_0_1.scatterDimsToOperandDims,
      List.idxOf_lt_length_iff.2 (List.mem_singleton.mpr rfl)⟩ = (column j) := by
    funext b
    apply Fin.ext
    match b with
    | 0 => rfl
    | 1 => rfl
  have h := hidx (column j)
  have hst : ScatterDims.start scatter_S100000_S6400000x1_S6400000_n_0_0_1 j idx 0
      = ((idx (column j)).toNat : ℤ) := by
    unfold ScatterDims.start
    rw [dif_pos (show (0 : Fin 1) ∈ scatter_S100000_S6400000x1_S6400000_n_0_0_1.scatterDimsToOperandDims from List.mem_singleton.mpr rfl), hs,
      BitVec.toInt_eq_toNat_of_lt (by omega)]
  unfold ScatterDims.resultIdx?
  rw [dif_pos]
  · congr 1
    funext a
    obtain rfl : a = 0 := Subsingleton.elim _ _
    apply Fin.ext
    rw [at1_val h]
    show (ScatterDims.start _ j idx 0 + (ScatterDims.window _ j 0 : ℤ)).toNat = _
    rw [hst, hw]
    omega
  · intro a
    obtain rfl : a = 0 := Subsingleton.elim _ _
    rw [hst, hw]
    show _ ∧ _ < ((100000 : ℕ) : ℤ)
    omega

end Cert.Proof

end
-- ==== Proof.RefValue.lean ====
/-
  What the reference computes: its thresholded array, the scattered sums, and the least of them.
-/
module

public import proofs.«01_k».proof.Proof.Meaning
public import proofs.«01_k».proof.Proof.RefPieces
public import proofs.«01_k».proof.Proof.Gen.ReferenceIdeal.Run

@[expose] public section

set_option maxRecDepth 65536

noncomputable section

namespace Cert.Proof

open Idealize.ShloMosaic Cert.Proof.Add Cert.ReferenceIdeal
open Cert.ReferenceIdeal.Facts₀ Cert.ReferenceIdeal.Facts

/-- A natural number as an extended real. -/
def real (n : ℕ) : EReal := ((n : ℝ) : EReal)

theorem real_add (a b : ℕ) : real (a + b) = real a + real b := by
  unfold real; rw [Nat.cast_add, EReal.coe_add]

theorem real_zero : real 0 = 0 := by unfold real; simp

theorem real_one : real 1 = 1 := by unfold real; simp

theorem real_le {a b : ℕ} : real a ≤ real b ↔ a ≤ b := by
  unfold real; rw [EReal.coe_le_coe_iff]; exact Nat.cast_le

theorem real_sum {ι : Type} (s : Finset ι) (f : ι → ℕ) : ∑ i ∈ s, real (f i) = real (∑ i ∈ s, f i) := by
  classical
  induction s using Finset.induction_on with
  | empty => simp [real_zero]
  | insert a s ha ih => rw [Finset.sum_insert ha, Finset.sum_insert ha, ih, real_add]

/-- The reference's thresholded array: the rounded floor-division by the constant. -/
def refQ (x : FVec Ideal S100000 .f32) : FVec Ideal S100000 .f32 :=
  Host.round (select (andi (cmpf .une (Host.remf x (broadcastInDim S100000 ![] bcast_S_S100000 (id (constant S_ .f32 0x3F0000A8#32)))) (broadcastInDim S100000 ![] bcast_S_S100000 (constant S_ .f32 0x00000000#32))) (cmpf .une (broadcastInDim S100000 ![] bcast_S_S100000 (Host.sign (id (constant S_ .f32 0x3F0000A8#32)))) (Host.sign (Host.remf x (broadcastInDim S100000 ![] bcast_S_S100000 (id (constant S_ .f32 0x3F0000A8#32))))))) (subf (Host.divf (select (broadcastInDim S100000 ![] bcast_S_S100000 (cmpf .oeq (id (constant S_ .f32 0x3F0000A8#32) : FVec Ideal S_ .f32) (constant S_ .f32 0x00000000#32))) x (subf x (Host.remf x (broadcastInDim S100000 ![] bcast_S_S100000 (id (constant S_ .f32 0x3F0000A8#32)))))) (broadcastInDim S100000 ![] bcast_S_S100000 (id (constant S_ .f32 0x3F0000A8#32)))) (broadcastInDim S100000 ![] bcast_S_S100000 (constant S_ .f32 0x3F800000#32))) (Host.divf (select (broadcastInDim S100000 ![] bcast_S_S100000 (cmpf .oeq (id (constant S_ .f32 0x3F0000A8#32) : FVec Ideal S_ .f32) (constant S_ .f32 0x00000000#32))) x (subf x (Host.remf x (broadcastInDim S100000 ![] bcast_S_S100000 (id (constant S_ .f32 0x3F0000A8#32)))))) (broadcastInDim S100000 ![] bcast_S_S100000 (id (constant S_ .f32 0x3F0000A8#32)))))

/-- Row `r` of an adjacency array. -/
def refRow0 (a : S2x3200000.Idx → BitVec 32) : S3200000.Idx → BitVec 32 :=
  shapeCast S3200000 (extractStridedSlice S1x3200000 ![0, 0] a slices_S2x3200000_S1x3200000_0_0) shapeCasts_S1x3200000_S3200000

/-- Row 1 of an adjacency array. -/
def refRow1 (a : S2x3200000.Idx → BitVec 32) : S3200000.Idx → BitVec 32 :=
  shapeCast S3200000 (extractStridedSlice S1x3200000 ![1, 0] a slices_S2x3200000_S1x3200000_1_0) shapeCasts_S1x3200000_S3200000

/-- The index list made from row 1. -/
def refIdx (v : S3200000.Idx → BitVec 32) : S3200000x1.Idx → BitVec 32 :=
  broadcastInDim S3200000x1 ![0] bcast_S3200000_S3200000x1_0 (select (cmpi .slt v (broadcastInDim S3200000 ![] bcast_S_S3200000 (constantI S_ 32 0#32)))
      (addi v (broadcastInDim S3200000 ![] bcast_S_S3200000 (constantI S_ 32 100000#32))) v)

/-- One minus an array. -/
def refNot (q : FVec Ideal S100000 .f32) : FVec Ideal S100000 .f32 :=
  subf (broadcastInDim S100000 ![] bcast_S_S100000 (constant S_ .f32 0x3F800000#32)) q

/-- The scattered counts. -/
def refCounts (q : FVec Ideal S100000 .f32) (a b : S2x3200000.Idx → BitVec 32) : FVec Ideal S100000 .f32 :=
  Host.scatterAdd scatter_S100000_S6400000x1_S6400000_n_0_0_1 (broadcastInDim S100000 ![] bcast_S_S100000 (constant S_ .f32 0x00000000#32))
    (broadcastInDim S6400000x1 ![0] bcast_S6400000_S6400000x1_0
      (concatenate S6400000 0 [⟨S3200000, refRow0 a⟩, ⟨S3200000, refRow0 b⟩] concatenates_S3200000_S3200000_S6400000_d0))
    (concatenate S6400000 0
      [⟨S3200000, Host.gather gather_S100000_S3200000x1_S3200000_n_0_n_n_0_1_1 q (refIdx (refRow1 a))⟩,
       ⟨S3200000, Host.gather gather_S100000_S3200000x1_S3200000_n_0_n_n_0_1_1 (refNot q) (refIdx (refRow1 b))⟩]
      concatenates_S3200000_S3200000_S6400000_d0)

/-- The reference's result. -/
def refMin (f : FVec Ideal S100000 .f32) : FVec Ideal S_ .f32 :=
  Host.reduce FloatOps.minimumf f (constant S_ .f32 0x7F800000#32) reducesTo_S100000_S_d0 h_S_

open Idealize.ShloMosaic.TcCoe in
/-- The term the reference's run leaves is these pieces composed. -/
theorem res_eq (m : (ℓ : Loc nD τ sig) → Buf (Elt Ideal) ℓ) (c : Dev nD) :
    Cert.ReferenceIdeal.Value.res_main_v30 (F := Ideal) m c
      = refMin (refCounts (refQ (m ((c.tc : Thread nD τ).loc main_arg0))) (m ((c.tc : Thread nD τ).loc main_arg1))
          (m ((c.tc : Thread nD τ).loc main_arg2))) := rfl

/-- One element of the thresholded array is the element's rounded quotient. -/
theorem refQ_quot (x : FVec Ideal S100000 .f32) (j : S100000.Idx) : refQ x j = quot (thr : EReal) (x j) := by
  unfold quot
  rw [← ofBits_thr, ← Ideal.ofBits_one_f32, show (0 : EReal) = Ideal.ofBits .f32 0x00000000#32 from by simp [Ideal.ofBits, Ideal.ieee]]
  rfl

/-- On [0, 1) it is 1 where the variable is on and 0 where it is off. -/
theorem refQ_apply (x : FVec Ideal S100000 .f32) (hx : ∀ j, (0 : EReal) ≤ x j ∧ (x j : EReal) < 1) (v : ℕ) :
    refQ x (at1 v) = real (on x v) := by
  obtain ⟨h0, h1⟩ := hx (at1 v)
  rw [refQ_quot]
  unfold on
  generalize (x (at1 v) : EReal) = y at *
  induction y using EReal.rec with
  | bot => exact absurd h0 (by simp)
  | top => exact absurd h1 (by simp)
  | coe y =>
    rw [quot_eq (by exact_mod_cast h0) (by exact_mod_cast h1)]
    unfold real
    simp only [EReal.coe_le_coe_iff]
    split <;> simp

/-- One minus it is 1 where the variable is off. -/
theorem refNot_apply (x : FVec Ideal S100000 .f32) (hx : ∀ j, (0 : EReal) ≤ x j ∧ (x j : EReal) < 1) (v : ℕ) :
    refNot (refQ x) (at1 v) = real (1 - on x v) := by
  show Ideal.ofBits .f32 0x3F800000#32 - refQ x (at1 v) = _
  rw [refQ_apply x hx, Ideal.ofBits_one_f32]
  have := on_le x v
  rcases Nat.le_one_iff_eq_zero_or_eq_one.1 this with h | h <;> rw [h]
  · rw [real_zero, real_one]; simp
  · rw [real_one, real_zero, ← EReal.coe_one, ← EReal.coe_sub]; simp

end Cert.Proof

end
-- ==== Proof.RefSum.lean ====
/-
  The reference's counts are the counts of Meaning, and its result is the least of them.
-/
module

public import proofs.«01_k».proof.Proof.RefValue

@[expose] public section

set_option maxRecDepth 65536

noncomputable section

namespace Cert.Proof

open Idealize.ShloMosaic Cert.Proof.Add Cert.ReferenceIdeal
open Cert.ReferenceIdeal.Facts₀ Cert.ReferenceIdeal.Facts

variable (x : FVec Ideal S100000 .f32) (a b : S2x3200000.Idx → BitVec 32)

/-- An adjacency array laid out in one row. -/
def flat (a : S2x3200000.Idx → BitVec 32) (h : S2x3200000.ShapeCasts (V1 6400000)) : (V1 6400000).Idx → BitVec 32 :=
  shapeCast (V1 6400000) a h

/-- The clause ids of the two arrays, one after the other, as the scatter's index column. -/
def refIds (a b : S2x3200000.Idx → BitVec 32) : S6400000x1.Idx → BitVec 32 :=
  broadcastInDim S6400000x1 ![0] bcast_S6400000_S6400000x1_0
    (concatenate S6400000 0 [⟨S3200000, refRow0 a⟩, ⟨S3200000, refRow0 b⟩] concatenates_S3200000_S3200000_S6400000_d0)

/-- The column at a list's position is the list there. -/
theorem column_apply (s : S6400000.Idx → BitVec 32) (h : S6400000.BroadcastsInDim S6400000x1 ![0]) (j : S6400000.Idx) :
    broadcastInDim S6400000x1 ![0] h s (column j) = s j := by
  unfold broadcastInDim
  congr 1
  funext d
  obtain rfl : d = 0 := Subsingleton.elim _ _
  apply Fin.ext
  rw [dif_neg (by decide)]
  rfl

/-- Every index of the scatter's column stands at a list's position. -/
theorem exists_column {N : ℕ} (y : (⟨2, ![N, 1]⟩ : Shape).Idx) : ∃ j : (V1 N).Idx, y = column j := by
  refine ⟨fun _ => ⟨(y 0).val, by rename_i d; obtain rfl : d = 0 := Subsingleton.elim _ _; exact (y 0).isLt⟩, ?_⟩
  funext d
  apply Fin.ext
  match d with
  | 0 => rfl
  | 1 => have : (y 1).val < 1 := (y 1).isLt
         show (y 1).val = 0
         omega

theorem flat_lt (h : S2x3200000.ShapeCasts (V1 6400000)) (ha : ∀ i, (a i).toNat < 100000) (i : (V1 6400000).Idx) :
    (flat a h i).toNat < 100000 := ha _

theorem refRow0_lt (ha : ∀ i, (a i).toNat < 100000) (i : S3200000.Idx) : (refRow0 a i).toNat < 100000 := ha _

theorem refRow1_lt (ha : ∀ i, (a i).toNat < 100000) (i : S3200000.Idx) : (refRow1 a i).toNat < 100000 := ha _

theorem refRow0_apply (h : S2x3200000.ShapeCasts (V1 6400000)) {e : ℕ} (he : e < 3200000) :
    refRow0 a (at1 e) = flat a h (at1 e) :=
  (row_apply a 0 (by decide) _ _ h he).trans (by rw [Nat.mul_zero, Nat.zero_add]; rfl)

theorem refRow1_apply (h : S2x3200000.ShapeCasts (V1 6400000)) {e : ℕ} (he : e < 3200000) :
    refRow1 a (at1 e) = flat a h (at1 (3200000 + e)) :=
  (row_apply a 1 (by decide) _ _ h he).trans (by rw [Nat.mul_one]; rfl)

/-- The index column's entries: the first array's clause ids, … -/
theorem refIds_left (h : S2x3200000.ShapeCasts (V1 6400000)) {e : ℕ} (he : e < 3200000) :
    refIds a b (column (at1 e)) = flat a h (at1 e) := by
  unfold refIds
  rw [column_apply, concat_left _ _ _ he, refRow0_apply a h he]

/-- … then the second's. -/
theorem refIds_right (h : S2x3200000.ShapeCasts (V1 6400000)) {e : ℕ} (he : e < 3200000) :
    refIds a b (column (at1 (3200000 + e))) = flat b h (at1 e) := by
  unfold refIds
  rw [column_apply, concat_right _ _ _ he, refRow0_apply b h he]

/-- All of them are below 100000. -/
theorem refIds_lt (h : S2x3200000.ShapeCasts (V1 6400000)) (ha : ∀ i, (a i).toNat < 100000) (hb : ∀ i, (b i).toNat < 100000) (y : S6400000x1.Idx) :
    (refIds a b y).toNat < 100000 := by
  obtain ⟨j, rfl⟩ := exists_column y
  have hj : (j 0).val < 6400000 := (j 0).isLt
  by_cases hl : (j 0).val < 3200000
  · rw [eq_at1 j _ rfl, refIds_left a b h hl]; exact ha _
  · rw [eq_at1 j (3200000 + ((j 0).val - 3200000)) (by omega), refIds_right a b h (by omega)]; exact hb _

/-- The gathered values, as the scatter's updates. -/
def refUpd (q : FVec Ideal S100000 .f32) (a b : S2x3200000.Idx → BitVec 32) : FVec Ideal S6400000 .f32 :=
  concatenate S6400000 0
      [⟨S3200000, Host.gather gather_S100000_S3200000x1_S3200000_n_0_n_n_0_1_1 q (refIdx (refRow1 a))⟩,
       ⟨S3200000, Host.gather gather_S100000_S3200000x1_S3200000_n_0_n_n_0_1_1 (refNot q) (refIdx (refRow1 b))⟩]
      concatenates_S3200000_S3200000_S6400000_d0

theorem refIdx_column (v : S3200000.Idx → BitVec 32) (hv : ∀ i, (v i).toNat < 100000) (y : S3200000x1.Idx) :
    refIdx v y = v (at1 (y 0).val) := index_apply v hv _ _ y

/-- A gather through row 1: the array at the variable the entry names. -/
theorem gather_row1 (h : S2x3200000.ShapeCasts (V1 6400000)) (ha : ∀ i, (a i).toNat < 100000) (q : FVec Ideal S100000 .f32) {e : ℕ} (he : e < 3200000) :
    Host.gather gather_S100000_S3200000x1_S3200000_n_0_n_n_0_1_1 q (refIdx (refRow1 a)) (at1 e)
      = q (at1 (flat a h (at1 (3200000 + e))).toNat) := by
  rw [gather_apply q (refIdx (refRow1 a)) (fun y => by rw [refIdx_column _ (refRow1_lt a ha)]; exact refRow1_lt a ha _),
    refIdx_column _ (refRow1_lt a ha)]
  have e1 : ((column (at1 e : S3200000.Idx) : S3200000x1.Idx) 0).val = e := at1_val he 0
  rw [e1, refRow1_apply a h he]

/-- The scatter-add of a list of updates, at one element: its start plus every update whose index names it. -/
theorem scatterAdd_apply (z : FVec Ideal S100000 .f32) (idx : S6400000x1.Idx → BitVec 32) (hidx : ∀ y, (idx y).toNat < 100000)
    (upd : FVec Ideal S6400000 .f32) (i : S100000.Idx) :
    (Host.scatterAdd scatter_S100000_S6400000x1_S6400000_n_0_0_1 z idx upd i : EReal)
      = z i + ∑ j : S6400000.Idx, if (idx (column j)).toNat = (i 0).val then (upd j : EReal) else 0 := by
  have hi : (i 0).val < 100000 := (i 0).isLt
  have hland : ∀ j : S6400000.Idx, ScatterDims.resultIdx? scatter_S100000_S6400000x1_S6400000_n_0_0_1 j idx = some i
      ↔ (idx (column j)).toNat = (i 0).val := by
    intro j
    rw [scatter_at _ hidx, Option.some_inj]
    constructor
    · rintro rfl
      exact (at1_val (hidx _) 0).symm
    · intro e; rw [e]; exact (eq_at1 i _ rfl).symm
  unfold Host.scatterAdd
  rw [Ideal.hostScatterAdd_def]
  unfold Ideal.hostScatterAdd
  rw [Finset.sum_filter]
  refine congrArg (z i + ·) ?_
  exact Finset.sum_congr rfl fun j _ => if_congr (hland j) rfl rfl

/-- A sum over 6400000 positions, in two halves. -/
theorem sum_halves (f : ℕ → EReal) :
    ∑ n ∈ Finset.range 6400000, f n = ∑ e ∈ Finset.range 3200000, f e + ∑ e ∈ Finset.range 3200000, f (3200000 + e) := by
  have h := Finset.sum_range_add f 3200000 3200000
  rwa [show (3200000 : ℕ) + 3200000 = 6400000 from rfl] at h

/-- The same with an element named by its number and the list by its positions. -/
theorem scatterAdd_at (z : FVec Ideal S100000 .f32) (idx : S6400000x1.Idx → BitVec 32) (hidx : ∀ y, (idx y).toNat < 100000)
    (upd : FVec Ideal S6400000 .f32) {c : ℕ} (hc : c < 100000) :
    (Host.scatterAdd scatter_S100000_S6400000x1_S6400000_n_0_0_1 z idx upd (at1 c) : EReal)
      = z (at1 c) + ((∑ e ∈ Finset.range 3200000, if (idx (column (at1 e))).toNat = c then (upd (at1 e) : EReal) else 0)
        + ∑ e ∈ Finset.range 3200000, if (idx (column (at1 (3200000 + e)))).toNat = c then (upd (at1 (3200000 + e)) : EReal) else 0) := by
  rw [scatterAdd_apply z idx hidx, sum_at1 (N := 6400000), sum_halves, at1_val hc]

/-- What an entry adds, as an extended real. -/
theorem real_entry (lit : ℕ → ℕ) (adj : (V1 6400000).Idx → BitVec 32) (c e : ℕ) (w : BitVec 32) (u : EReal)
    (hw : w = adj (at1 e)) (hu : u = real (lit (adj (at1 (3200000 + e))).toNat)) :
    (if w.toNat = c then u else 0) = real (entry lit adj c e) := by
  subst hw hu
  unfold entry
  split
  · rfl
  · exact real_zero.symm

/-- The updates: first the variables' values of the first array's entries, … -/
theorem refUpd_left (h : S2x3200000.ShapeCasts (V1 6400000)) (hx : ∀ j, (0 : EReal) ≤ x j ∧ (x j : EReal) < 1)
    (ha : ∀ i, (a i).toNat < 100000) {e : ℕ} (he : e < 3200000) :
    refUpd (refQ x) a b (at1 e) = real (on x (flat a h (at1 (3200000 + e))).toNat) := by
  unfold refUpd
  rw [concat_left _ _ _ he, gather_row1 a h ha _ he, refQ_apply x hx]

/-- … then the complements of those of the second's. -/
theorem refUpd_right (h : S2x3200000.ShapeCasts (V1 6400000)) (hx : ∀ j, (0 : EReal) ≤ x j ∧ (x j : EReal) < 1)
    (hb : ∀ i, (b i).toNat < 100000) {e : ℕ} (he : e < 3200000) :
    refUpd (refQ x) a b (at1 (3200000 + e)) = real (1 - on x (flat b h (at1 (3200000 + e))).toNat) := by
  unfold refUpd
  rw [concat_right _ _ _ he, gather_row1 b h hb _ he, refNot_apply x hx]

theorem refCounts_eq (q : FVec Ideal S100000 .f32) :
    refCounts q a b = Host.scatterAdd scatter_S100000_S6400000x1_S6400000_n_0_0_1
      (broadcastInDim S100000 ![] bcast_S_S100000 (constant S_ .f32 0x00000000#32)) (refIds a b) (refUpd q a b) := rfl

/-- The counts: clause `c`'s element is its count. -/
theorem refCounts_apply (h : S2x3200000.ShapeCasts (V1 6400000)) (hx : ∀ j, (0 : EReal) ≤ x j ∧ (x j : EReal) < 1)
    (ha : ∀ i, (a i).toNat < 100000) (hb : ∀ i, (b i).toNat < 100000) {c : ℕ} (hc : c < 100000) :
    refCounts (refQ x) a b (at1 c) = real (holds x (flat a h) (flat b h) c) := by
  rw [refCounts_eq]
  refine (scatterAdd_at _ _ (refIds_lt a b h ha hb) _ hc).trans ?_
  have hz : (broadcastInDim S100000 ![] bcast_S_S100000 (constant (F := Ideal) S_ .f32 0x00000000#32) (at1 c) : EReal) = 0 := by
    show Ideal.ofBits .f32 0x00000000#32 = 0
    simp [Ideal.ofBits, Ideal.ieee]
  rw [hz, zero_add]
  unfold holds
  rw [real_add, ← real_sum, ← real_sum]
  refine congrArg₂ (· + ·) ?_ ?_
  · refine Finset.sum_congr rfl fun e he => ?_
    have he := Finset.mem_range.1 he
    exact real_entry (on x) (flat a h) c e _ _ (refIds_left a b h he) (refUpd_left x a b h hx ha he)
  · refine Finset.sum_congr rfl fun e he => ?_
    have he := Finset.mem_range.1 he
    exact real_entry (fun v => 1 - on x v) (flat b h) c e _ _ (refIds_right a b h he) (refUpd_right x a b h hx hb he)

/-- A left fold of `min` from the top: below every element, and an element or the top. -/
theorem foldl_min {ι : Type} (g : ι → EReal) (l : List ι) (z : EReal) :
    (∀ i ∈ l, l.foldl (fun r n => min r (g n)) z ≤ g i) ∧ l.foldl (fun r n => min r (g n)) z ≤ z
      ∧ (l.foldl (fun r n => min r (g n)) z = z ∨ ∃ i ∈ l, l.foldl (fun r n => min r (g n)) z = g i) := by
  induction l generalizing z with
  | nil => exact ⟨fun _ h => absurd h List.not_mem_nil, le_rfl, Or.inl rfl⟩
  | cons k l ih =>
    obtain ⟨h1, h2, h3⟩ := ih (min z (g k))
    simp only [List.foldl_cons]
    refine ⟨fun i hi => ?_, h2.trans (min_le_left _ _), ?_⟩
    · rcases List.mem_cons.1 hi with rfl | hi
      · exact h2.trans (min_le_right _ _)
      · exact h1 i hi
    · rcases h3 with h3 | ⟨i, hi, h3⟩
      · rcases min_choice z (g k) with h | h
        · exact Or.inl (h3.trans h)
        · exact Or.inr ⟨k, List.mem_cons_self, h3.trans h⟩
      · exact Or.inr ⟨i, List.mem_cons_of_mem _ hi, h3⟩

/-- The reference's reduction of an array of naturals is the least of them. -/
theorem refMin_least (f : FVec Ideal S100000 .f32) (n : ℕ → ℕ) (hf : ∀ c < 100000, f (at1 c) = real (n c)) (j : S_.Idx) :
    ∃ r, Least n r ∧ refMin f j = real r := by
  have hf' : ∀ i : S100000.Idx, f i = real (n (i 0).val) := fun i => by
    have hi : (i 0).val < 100000 := (i 0).isLt
    rw [← hf _ hi, ← eq_at1 i _ rfl]
  have hmem : ∀ i : S100000.Idx, S100000.rowMajor i ∈ (List.finRange S100000.numel).filter
      fun k => (reducesTo_S100000_S_d0).drop (S100000.rowMajor.symm k) = j := fun i =>
    List.mem_filter.2 ⟨List.mem_finRange _, decide_eq_true (funext fun d => d.elim0)⟩
  obtain ⟨h1, -, h3⟩ := foldl_min (fun k => f (S100000.rowMajor.symm k))
    ((List.finRange S100000.numel).filter fun k => (reducesTo_S100000_S_d0).drop (S100000.rowMajor.symm k) = j) (Ideal.ofBits .f32 0x7F800000#32)
  have htop : Ideal.ofBits .f32 0x7F800000#32 = (⊤ : EReal) := by simp [Ideal.ofBits, Ideal.ieee]
  have hle : ∀ c < 100000, refMin f j ≤ real (n c) := fun c hc => by
    have := h1 _ (hmem (at1 c))
    simp only [Equiv.symm_apply_apply] at this
    rw [hf c hc] at this
    exact this
  rcases h3 with h3 | ⟨k, -, h3⟩
  · exfalso
    have := hle 0 (by decide)
    have e : refMin f j = ⊤ := h3.trans htop
    rw [e] at this
    exact absurd (top_le_iff.1 this) (EReal.coe_ne_top _)
  · have e : refMin f j = real (n ((S100000.rowMajor.symm k) 0).val) := h3.trans (hf' _)
    refine ⟨_, ⟨⟨_, ((S100000.rowMajor.symm k) 0).isLt, rfl⟩, fun c hc => ?_⟩, e⟩
    rw [← real_le, ← e]
    exact hle c hc

end Cert.Proof

end
-- ==== Proof.Bits.lean ====
/-
  The packed table read back: a word packed from 32 bits, shifted and masked, gives each bit back; so the bit the scatter
  kernel reads for a variable says whether the variable is on.
-/
module

public import proofs.«01_k».proof.Proof.Meaning
public import proofs.«01_k».proof.Proof.ValuesIdeal
public import Idealize.ShloMosaic.Lib.WordSum

@[expose] public section

set_option maxRecDepth 65536

noncomputable section

namespace Cert.Proof

open Idealize.ShloMosaic Cert.Proof.Add
open Cert.KernelIdeal Cert.KernelIdeal.Gen

/-- A number written with the bits `b` gives them back. -/
theorem bits_read (b : ℕ → ℕ) (hb : ∀ i, b i ≤ 1) (n : ℕ) :
    (∑ i ∈ Finset.range n, b i * 2 ^ i) < 2 ^ n ∧ ∀ k < n, (∑ i ∈ Finset.range n, b i * 2 ^ i) / 2 ^ k % 2 = b k := by
  induction n with
  | zero => exact ⟨by simp, fun k hk => absurd hk (Nat.not_lt_zero k)⟩
  | succ n ih =>
    obtain ⟨h1, h2⟩ := ih
    have hn := hb n
    rw [Finset.sum_range_succ]
    constructor
    · rw [Nat.pow_succ]
      have : b n * 2 ^ n ≤ 1 * 2 ^ n := Nat.mul_le_mul_right _ hn
      omega
    · intro k hk
      rcases Nat.lt_succ_iff_lt_or_eq.1 hk with h | rfl
      · obtain ⟨t, rfl⟩ : ∃ t, n = k + (t + 1) := ⟨n - k - 1, by omega⟩
        rw [show b (k + (t + 1)) * 2 ^ (k + (t + 1)) = 2 ^ k * (2 * (b (k + (t + 1)) * 2 ^ t)) from by
            rw [Nat.pow_add, Nat.pow_succ]; ac_rfl,
          Nat.add_mul_div_left _ _ (Nat.two_pow_pos k), Nat.add_mul_mod_self_left]
        exact h2 k h
      · rw [Nat.add_mul_div_right _ _ (Nat.two_pow_pos k), Nat.div_eq_of_lt h1]
        omega

/-- Index (r, c) of a two-dimensional array. -/
def at2 {R C : ℕ} [NeZero R] [NeZero C] (r c : ℕ) : (⟨2, ![R, C]⟩ : Shape).Idx :=
  fun | 0 => (⟨r % R, Nat.mod_lt _ (Nat.pos_of_ne_zero (NeZero.ne R))⟩ : Fin R) | 1 => (⟨c % C, Nat.mod_lt _ (Nat.pos_of_ne_zero (NeZero.ne C))⟩ : Fin C)

theorem at2_zero {R C : ℕ} [NeZero R] [NeZero C] {r : ℕ} (c : ℕ) (h : r < R) : ((at2 r c : (⟨2, ![R, C]⟩ : Shape).Idx) 0).val = r := Nat.mod_eq_of_lt h

theorem at2_one {R C : ℕ} [NeZero R] [NeZero C] (r : ℕ) {c : ℕ} (h : c < C) : ((at2 r c : (⟨2, ![R, C]⟩ : Shape).Idx) 1).val = c := Nat.mod_eq_of_lt h

theorem eq_at2 {R C : ℕ} [NeZero R] [NeZero C] (i : (⟨2, ![R, C]⟩ : Shape).Idx) {r c : ℕ} (hr : (i 0).val = r) (hc : (i 1).val = c) : i = at2 r c := by
  have h0 : (i 0).val < R := (i 0).isLt
  have h1 : (i 1).val < C := (i 1).isLt
  funext a
  apply Fin.ext
  match a with
  | 0 => exact hr.trans (at2_zero c (hr ▸ h0)).symm
  | 1 => exact hc.trans (at2_one r (hc ▸ h1)).symm

/-- The sum over what a reduction of the rows sends to column `j` is the sum down that column. -/
theorem sum_column {M : Type} [AddCommMonoid M] {R C : ℕ} [NeZero R] [NeZero C] (h : (⟨2, ![R, C]⟩ : Shape).Reduces [0] ⟨1, ![C]⟩)
    (f : (⟨2, ![R, C]⟩ : Shape).Idx → M) (j : (V1 C).Idx) :
    ∑ i ∈ Finset.univ.filter (fun i => h.drop i = j), f i = ∑ r ∈ Finset.range R, f (at2 r (j 0).val) := by
  have hd : ∀ i : (⟨2, ![R, C]⟩ : Shape).Idx, h.drop i = j ↔ (i 1).val = (j 0).val := by
    intro i
    have e : (h.drop i 0).val = (i 1).val := Shape.Reduces.drop_val h i 0
    constructor
    · intro hh; rw [← e, hh]
    · intro hh
      funext a
      obtain rfl : a = 0 := Subsingleton.elim _ _
      exact Fin.ext (e.trans hh)
  have hj : (j 0).val < C := (j 0).isLt
  refine Finset.sum_nbij' (fun i => (i 0).val) (fun r => at2 r (j 0).val) (fun i _ => Finset.mem_range.2 (i 0).isLt)
    (fun r _ => Finset.mem_filter.2 ⟨Finset.mem_univ _, (hd _).2 (at2_one r hj)⟩)
    (fun i hi => (eq_at2 i rfl ((hd i).1 (Finset.mem_filter.1 hi).2)).symm) (fun r hr => at2_zero _ (Finset.mem_range.1 hr))
    (fun i hi => by rw [← eq_at2 i rfl ((hd i).1 (Finset.mem_filter.1 hi).2)])

/-- Whether a value reaches the constant, as a number. -/
def reach (y : EReal) : ℕ := if (thr : EReal) ≤ y then 1 else 0

theorem reach_le (y : EReal) : reach y ≤ 1 := by unfold reach; split <;> decide

/-- The comparison's bit, selected as a word and shifted left by its row. -/
theorem shifted (y : EReal) {k : ℕ} (hk : k < 32) :
    (IntOp.shli .vector (Scalar.select (Ideal.cmp .oge y (Ideal.ofBits .f32 0x3F0000A8#32)) (1#32) 0#32) (BitVec.ofNat 32 k)).toNat
      = reach y * 2 ^ k := by
  have hk' : (BitVec.ofNat 32 k).toNat = k := by rw [BitVec.toNat_ofNat]; omega
  unfold IntOp.shli
  rw [if_pos (by rw [hk']; exact hk), ofBits_thr]
  unfold Ideal.cmp reach
  by_cases h : (thr : EReal) ≤ y
  · rw [if_pos h]
    simp only [h, decide_true]
    show ((1#32 : BitVec 32) <<< (BitVec.ofNat 32 k)).toNat = _
    rw [BitVec.shiftLeft_eq', BitVec.toNat_shiftLeft, hk', Nat.shiftLeft_eq, Nat.mod_eq_of_lt]
    · rfl
    · show 1 * 2 ^ k < 2 ^ 32
      rw [Nat.one_mul]
      exact Nat.pow_lt_pow_right (by decide) hk
  · rw [if_neg h]
    simp only [h, decide_false]
    show ((0#32 : BitVec 32) <<< (BitVec.ofNat 32 k)).toNat = _
    simp

/-- The shifted bits the packing sums down each column. -/
def packSrc (v : S32x3200.Idx → EReal) : S32x3200.Idx → BitVec 32 :=
  shli (select (cmpf (F := Ideal) (φ := .f32) .oge (shapeCast S32x3200 v shapeCasts_S32x3200_S32x3200) (broadcast S32x3200 (Scalar.ofBits .f32 0x3F0000A8#32)))
    (broadcast S32x3200 1#32) (broadcast S32x3200 0#32))
    (broadcastTo S32x3200 (iota .tc S32x1 32 [0] iota_S32x1_d0_w32) broadcasts_S32x1_S32x3200)

theorem pack_eq (v : S32x3200.Idx → EReal) :
    k0_pay1 (F := Ideal) v = shapeCast S1x3200 (multiReductionI .add [0] S3200 (packSrc v) 0#32 reduces_S32x3200_S3200 rfl) shapeCasts_S3200_S1x3200 := rfl

theorem packSrc_apply (v : S32x3200.Idx → EReal) {i : ℕ} (hi : i < 32) (c : ℕ) :
    (packSrc v (at2 i c)).toNat = reach (v (at2 i c)) * 2 ^ i := by
  have e : Shape.reshapeEquiv shapeCasts_S32x3200_S32x3200 (at2 (R := 32) (C := 3200) i c) = at2 i c := Shape.reshapeEquiv_eq_of_rowMajor _ rfl
  have e2 : broadcastTo S32x3200 (iota .tc S32x1 32 [0] iota_S32x1_d0_w32) broadcasts_S32x1_S32x3200 (at2 i c) = BitVec.ofNat 32 i := by
    have h0 : ((at2 i c : S32x3200.Idx) 0).val = i := at2_zero c hi
    show BitVec.ofNat 32 (0 * 32 + ((at2 i c : S32x3200.Idx) 0).val) = _
    rw [h0, Nat.zero_mul, Nat.zero_add]
  show (IntOp.shli .vector (Scalar.select (Ideal.cmp .oge (v (Shape.reshapeEquiv shapeCasts_S32x3200_S32x3200 (at2 i c))) (Ideal.ofBits .f32 0x3F0000A8#32)) (1#32) 0#32)
    (broadcastTo S32x3200 (iota .tc S32x1 32 [0] iota_S32x1_d0_w32) broadcasts_S32x1_S32x3200 (at2 i c))).toNat = _
  rw [e, e2]
  exact shifted _ hi

/-- A packed word is the number written with its column's bits. -/
theorem pack_apply (v : S32x3200.Idx → EReal) (y : S1x3200.Idx) :
    (k0_pay1 (F := Ideal) v y).toNat = ∑ i ∈ Finset.range 32, reach (v (at2 i (y 1).val)) * 2 ^ i := by
  have hy : (y 1).val < 3200 := (y 1).isLt
  have hy0 : (y 0).val < 1 := (y 0).isLt
  have e : Shape.reshapeEquiv shapeCasts_S3200_S1x3200 y = at1 (N := 3200) (y 1).val := by
    refine Shape.reshapeEquiv_eq_of_rowMajor _ ?_
    rw [Shape.rowMajor_val_two, Shape.rowMajor_val_one, at1_val hy]
    show _ = (y 0).val * 3200 + (y 1).val
    omega
  have hs : ∑ i ∈ Finset.univ.filter (fun i => (reduces_S32x3200_S3200 : S32x3200.Reduces [0] S3200).drop i = at1 (N := 3200) (y 1).val), (packSrc v i).toNat
      = ∑ i ∈ Finset.range 32, reach (v (at2 i (y 1).val)) * 2 ^ i := by
    rw [sum_column, at1_val hy]
    exact Finset.sum_congr rfl fun i hi => packSrc_apply v (Finset.mem_range.1 hi) _
  rw [pack_eq]
  show (multiReductionI .add [0] S3200 (packSrc v) 0#32 reduces_S32x3200_S3200 rfl (Shape.reshapeEquiv shapeCasts_S3200_S1x3200 y)).toNat = _
  rw [e]
  refine (WordSum.toNat_multiReductionI_add (packSrc v) reduces_S32x3200_S3200 rfl (at1 (y 1).val) ?_).trans hs
  rw [hs]
  exact (bits_read _ (fun i => reach_le _) 32).1

/-- Reading a bit: the word shifted right by its row and masked. -/
theorem shr_and (w k : BitVec 32) (hk : k.toNat < 32) :
    (IntOp.andi (IntOp.shrui .vector w k) 1#32).toNat = w.toNat / 2 ^ k.toNat % 2 := by
  unfold IntOp.shrui
  rw [if_pos hk]
  show ((w >>> k) &&& 1#32).toNat = _
  rw [BitVec.toNat_and, BitVec.ushiftRight_eq', BitVec.toNat_ushiftRight, Nat.shiftRight_eq_div_pow]
  exact Nat.and_one_is_mod _

end Cert.Proof

namespace Cert.Proof.OfKernelIdeal

open Idealize.ShloMosaic Cert.Proof.Add
open Cert.KernelIdeal Cert.KernelIdeal.Gen
open Idealize.ShloMosaic.TcCoe

variable (m : (ℓ : Loc nD τ sig) → Buf (Elt Ideal) ℓ) (d : Dev nD)

/-- The values, as launched. -/
def vals : S100000.Idx → EReal := m (d, (main_arg0 : DevRef τ sig))

/-- The packing kernel's block is its whole operand. -/
theorem stg0_apply (V : (c : Dev nD) → Valuation τ sig (Elt Ideal)) (y : S32x3200.Idx) :
    stg0 (fun c b => V c b) d y = V d (main_v1 : DevRef τ sig) y := by
  show V d (main_v1 : DevRef τ sig) (((cfg0.win 0).blk t0_0).view.emb y) = _
  congr 1
  funext a
  apply Fin.ext
  match a with
  | 0 => show 0 + 1 * (y 0).val = _
         omega
  | 1 => show 0 + 1 * (y 1).val = _
         omega

/-- The operand's entry at row `r`, column `c` is value `3200·r + c`. -/
theorem V1_at {r c : ℕ} (hr : r < 32) (hc : c < 3200) (h : 3200 * r + c < 100000) :
    (V1 m d (main_v1 : DevRef τ sig) : S32x3200.Idx → EReal) (at2 r c) = vals m d (at1 (3200 * r + c)) := by
  rw [V1_v1]
  have e : Shape.reshapeEquiv shapeCasts_S102400_S32x3200 (at2 (R := 32) (C := 3200) r c) = at1 (N := 102400) (3200 * r + c) := by
    refine Shape.reshapeEquiv_eq_of_rowMajor _ ?_
    rw [Shape.rowMajor_val_two, Shape.rowMajor_val_one, at1_val (by omega), at2_zero c hr, at2_one r hc]
    show _ = r * 3200 + c
    omega
  have hv : ((at1 (3200 * r + c) : S102400.Idx) 0).val = 3200 * r + c := at1_val (by omega) 0
  show pad S102400 ![0] ![2400] ![0] (vals m d) _ pads_S100000_S102400_024000 h_S_ (Shape.reshapeEquiv shapeCasts_S102400_S32x3200 (at2 r c)) = _
  rw [e]
  unfold pad
  rw [dif_pos]
  · congr 1
    refine eq_at1 _ _ ?_
    show (((at1 (3200 * r + c) : S102400.Idx) 0).val - 0) / 1 = _
    rw [hv]; omega
  · intro a
    obtain rfl : a = 0 := Subsingleton.elim _ _
    show 0 ≤ ((at1 (3200 * r + c) : S102400.Idx) 0).val ∧ (((at1 (3200 * r + c) : S102400.Idx) 0).val - 0) % 1 = 0 ∧ (((at1 (3200 * r + c) : S102400.Idx) 0).val - 0) / 1 < 100000
    rw [hv]; omega

/-- A word of the table is the number written with the bits of its 32 variables. -/
theorem tbl_apply {c : ℕ} (hc : c < 3200) :
    (tbl m d (at1 c)).toNat = ∑ i ∈ Finset.range 32, reach ((V1 m d (main_v1 : DevRef τ sig) : S32x3200.Idx → EReal) (at2 i c)) * 2 ^ i := by
  have e : Shape.reshapeEquiv shapeCasts_S1x3200_S3200 (at1 (N := 3200) c) = at2 (R := 1) (C := 3200) 0 c := by
    refine Shape.reshapeEquiv_eq_of_rowMajor _ ?_
    rw [Shape.rowMajor_val_two, Shape.rowMajor_val_one, at1_val hc, at2_zero c (by decide), at2_one 0 hc]
    show 0 * _ + c = c
    omega
  rw [tbl_eq]
  show (X m d (Shape.reshapeEquiv shapeCasts_S1x3200_S3200 (at1 c)) : BitVec 32).toNat = _
  rw [e, ← X_eq, pack_apply, at2_one 0 hc]
  exact Finset.sum_congr rfl fun i _ => by rw [stg0_apply]

/-- The bit the scatter kernel reads for variable `v` says whether the variable is on. -/
theorem bit_toNat (v : BitVec 32) (hv : v.toNat < 100000) : (Words.bit (tbl m d) v).toNat = on (vals m d) v.toNat := by
  have hr : v.toNat / 3200 < 32 := by omega
  have hc : v.toNat % 3200 < 3200 := Nat.mod_lt _ (by decide)
  unfold Words.bit
  rw [shr_and _ _ (by rw [Words.divsi_toNat hv]; exact hr), Words.divsi_toNat hv, Words.remsi_toNat hv, tbl_apply m d hc,
    (bits_read _ (fun i => reach_le _) 32).2 _ hr, V1_at m d hr hc (by omega), show 3200 * (v.toNat / 3200) + v.toNat % 3200 = v.toNat by omega]
  rfl

/-- The complement likewise. -/
theorem nbit_toNat (v : BitVec 32) (hv : v.toNat < 100000) : (Words.nbit (tbl m d) v).toNat = 1 - on (vals m d) v.toNat := by
  have h := bit_toNat m d v hv
  have h1 := on_le (vals m d) v.toNat
  unfold Words.nbit
  show (1#32 - Words.bit (tbl m d) v : BitVec 32).toNat = _
  rw [BitVec.toNat_sub, h]
  show (2 ^ 32 - on (vals m d) v.toNat + 1) % 2 ^ 32 = _
  omega

end Cert.Proof.OfKernelIdeal

end
-- ==== Proof.Counts.lean ====
/-
  The 32 rows of counts the scatter kernel leaves, added down a column: the clause's count.
-/
module

public import proofs.«01_k».proof.Proof.Bits

@[expose] public section

set_option maxRecDepth 65536

noncomputable section

namespace Cert.Proof

open Idealize.ShloMosaic Cert.Proof.Add

/-- A sum over `n` stretches of `k` positions is the sum over all `k·n`. -/
theorem sum_stretches (f : ℕ → ℕ) (k n : ℕ) :
    ∑ w ∈ Finset.range n, ∑ e ∈ Finset.range k, f (k * w + e) = ∑ e ∈ Finset.range (k * n), f e := by
  induction n with
  | zero => simp
  | succ n ih => rw [Finset.sum_range_succ, ih, Nat.mul_succ, Finset.sum_range_add]

/-- A sum of words, each a number at most 1, is the sum of the numbers. -/
theorem word_sum (f : ℕ → BitVec 32) (g : ℕ → ℕ) (n : ℕ) (hn : n < 2 ^ 32) (hg : ∀ e, g e ≤ 1) (h : ∀ e < n, (f e).toNat = g e) :
    (∑ e ∈ Finset.range n, f e).toNat = ∑ e ∈ Finset.range n, g e := by
  have e : ∑ e ∈ Finset.range n, (f e).toNat = ∑ e ∈ Finset.range n, g e := Finset.sum_congr rfl fun e he => h e (Finset.mem_range.1 he)
  rw [WordSum.toNat_sum, e]
  rw [e]
  exact (sum_le_card g hg n).trans_lt hn

/-- One entry's word is the number the entry adds. -/
theorem term_toNat (w : BitVec 32 → BitVec 32) (lit : ℕ → ℕ) (adj : (V1 6400000).Idx → BitVec 32) (hadj : ∀ x, (adj x).toNat < 100000)
    (h : ∀ v : BitVec 32, v.toNat < 100000 → (w v).toNat = lit v.toNat) (c e : ℕ) :
    (Words.term w adj c e).toNat = entry lit adj c e := by
  unfold Words.term entry
  split
  · exact h _ (hadj _)
  · rfl

end Cert.Proof

namespace Cert.Proof.OfKernelIdeal

open Idealize.ShloMosaic Cert.Proof.Add
open Cert.KernelIdeal Cert.KernelIdeal.Gen
open Idealize.ShloMosaic.TcCoe

variable (m : (ℓ : Loc nD τ sig) → Buf (Elt Ideal) ℓ) (d : Dev nD)

/-- Worker `w`'s count of clause `c`, as a number. -/
theorem count_toNat (hpos : ∀ x, (pos m d x).toNat < 100000) (hneg : ∀ x, (neg m d x).toNat < 100000) (w c : ℕ) :
    (Words.count (tbl m d) (pos m d) (neg m d) w c).toNat
      = (∑ e ∈ Finset.range 100000, entry (on (vals m d)) (pos m d) c (100000 * w + e))
        + ∑ e ∈ Finset.range 100000, entry (fun v => 1 - on (vals m d) v) (neg m d) c (100000 * w + e) := by
  have b1 := entry_le (on_le (vals m d)) (pos m d) c
  have b2 := entry_le (lit := fun v => 1 - on (vals m d) v) (fun v => Nat.sub_le 1 _) (neg m d) c
  have h1 := word_sum (fun e => Words.term (Words.bit (tbl m d)) (pos m d) c (100000 * w + e))
    (fun e => entry (on (vals m d)) (pos m d) c (100000 * w + e)) 100000 (by decide) (fun e => b1 (100000 * w + e))
    fun e _ => term_toNat _ _ _ hpos (bit_toNat m d) c (100000 * w + e)
  have h2 := word_sum (fun e => Words.term (Words.nbit (tbl m d)) (neg m d) c (100000 * w + e))
    (fun e => entry (fun v => 1 - on (vals m d) v) (neg m d) c (100000 * w + e)) 100000 (by decide) (fun e => b2 (100000 * w + e))
    fun e _ => term_toNat _ _ _ hneg (nbit_toNat m d) c (100000 * w + e)
  have l1 := sum_le_card _ (fun e => b1 (100000 * w + e)) 100000
  have l2 := sum_le_card _ (fun e => b2 (100000 * w + e)) 100000
  unfold Words.count
  rw [BitVec.toNat_add, h1, h2, Nat.mod_eq_of_lt]
  exact (Nat.add_le_add l1 l2).trans_lt (by decide)

/-- The 32 workers' counts of a clause add up to the clause's count. -/
theorem counts_sum (hpos : ∀ x, (pos m d x).toNat < 100000) (hneg : ∀ x, (neg m d x).toNat < 100000) (c : ℕ) :
    ∑ w ∈ Finset.range 32, (Words.count (tbl m d) (pos m d) (neg m d) w c).toNat = holds (vals m d) (pos m d) (neg m d) c := by
  rw [Finset.sum_congr rfl fun w _ => count_toNat m d hpos hneg w c, Finset.sum_add_distrib,
    sum_stretches (fun e => entry (on (vals m d)) (pos m d) c e) 100000 32,
    sum_stretches (fun e => entry (fun v => 1 - on (vals m d) v) (neg m d) c e) 100000 32]
  rfl

/-- The counts' array, at row `w` and column `c`. -/
theorem cnt_apply {w c : ℕ} (hw : w < 32) (hc : c < 102400) : cnt m d (at2 w c) = Words.count (tbl m d) (pos m d) (neg m d) w c := by
  have h0 : ((at2 w c : S32x102400.Idx) 0).val = w := at2_zero c hw
  have h1 : ((at2 w c : S32x102400.Idx) 1).val = c := at2_one w hc
  unfold cnt counts
  rw [h0, h1]

end Cert.Proof.OfKernelIdeal

end
-- ==== Proof.Minimum.lean ====
/-
  The reducing kernel's minimum: each block's least count among its clauses, and the running minimum over the eight blocks,
  which ends at the least count of all.
-/
module

public import proofs.«01_k».proof.Proof.Counts

@[expose] public section

set_option maxRecDepth 65536

noncomputable section

namespace Cert.Proof

open Idealize.ShloMosaic Cert.Proof.Add

/-- The signed minimum of two words below 2³¹ is the minimum of their numbers. -/
theorem minsi_toNat {a b : BitVec 32} (ha : a.toNat < 2 ^ 31) (hb : b.toNat < 2 ^ 31) :
    (IntOp.minsi a b).toNat = min a.toNat b.toNat := by
  have e : a.slt b = decide (a.toNat < b.toNat) := by
    rw [BitVec.slt_eq_decide, BitVec.toInt_eq_toNat_of_lt (by omega), BitVec.toInt_eq_toNat_of_lt (by omega)]
    simp
  unfold IntOp.minsi
  rw [e]
  by_cases h : a.toNat < b.toNat
  · simp only [h, decide_true, if_true]; omega
  · simp only [h, decide_false, Bool.false_eq_true, if_false]; omega

/-- A left fold of the signed minimum over words below 2³¹, from one below 2³¹: below the start and every word, and one of them. -/
theorem foldl_minsi {ι : Type} (g : ι → BitVec 32) (hg : ∀ i, (g i).toNat < 2 ^ 31) (l : List ι) (z : BitVec 32) (hz : z.toNat < 2 ^ 31) :
    (∀ i ∈ l, (l.foldl (fun r n => IntOp.minsi r (g n)) z).toNat ≤ (g i).toNat)
      ∧ (l.foldl (fun r n => IntOp.minsi r (g n)) z).toNat ≤ z.toNat
      ∧ ((l.foldl (fun r n => IntOp.minsi r (g n)) z).toNat = z.toNat ∨ ∃ i ∈ l, (l.foldl (fun r n => IntOp.minsi r (g n)) z).toNat = (g i).toNat) := by
  induction l generalizing z with
  | nil => exact ⟨fun _ h => absurd h List.not_mem_nil, le_rfl, Or.inl rfl⟩
  | cons k l ih =>
    have e := minsi_toNat hz (hg k)
    obtain ⟨h1, h2, h3⟩ := ih (IntOp.minsi z (g k)) (by rw [e]; omega)
    rw [e] at h2 h3
    simp only [List.foldl_cons]
    refine ⟨fun i hi => ?_, by omega, ?_⟩
    · rcases List.mem_cons.1 hi with rfl | hi
      · omega
      · exact h1 i hi
    · rcases h3 with h3 | ⟨i, hi, h3⟩
      · rcases Nat.le_total z.toNat (g k).toNat with h | h
        · exact Or.inl (by omega)
        · exact Or.inr ⟨k, List.mem_cons_self, by omega⟩
      · exact Or.inr ⟨i, List.mem_cons_of_mem _ hi, h3⟩

/-- `r` is the least of the counts `f` among the clauses from `lo` below `hi` (and below 100000), or the largest word when
    it is none of them. -/
def LeastIn (f : ℕ → ℕ) (lo hi r : ℕ) : Prop :=
  r < 2 ^ 31 ∧ (∀ c, lo ≤ c → c < hi → c < 100000 → r ≤ f c) ∧ (r = 2147483647 ∨ ∃ c, c < 100000 ∧ f c = r)

/-- Two neighbouring stretches: the minimum of their minima. -/
theorem LeastIn.join {f : ℕ → ℕ} {k n r s : ℕ} (hr : LeastIn f 0 k r) (hs : LeastIn f k n s) : LeastIn f 0 n (min r s) := by
  obtain ⟨a1, a2, a3⟩ := hr
  obtain ⟨b1, b2, b3⟩ := hs
  refine ⟨by omega, fun c _ h h' => ?_, ?_⟩
  · by_cases hc : c < k
    · have := a2 c (Nat.zero_le c) hc h'; omega
    · have := b2 c (by omega) h h'; omega
  · rcases Nat.le_total r s with h | h
    · rw [min_eq_left h]; exact a3
    · rw [min_eq_right h]; exact b3

/-- Over all the clauses it is the least count. -/
theorem LeastIn.least {f : ℕ → ℕ} {n r : ℕ} (h : LeastIn f 0 n r) (hn : 100000 ≤ n) (hf : f 0 < 2147483647) : Least f r := by
  obtain ⟨-, h2, h3⟩ := h
  have h0 := h2 0 le_rfl (by omega) (by decide)
  exact ⟨h3.resolve_left (by omega), fun c hc => h2 c (Nat.zero_le c) (by omega) hc⟩

end Cert.Proof

namespace Cert.Proof

open Idealize.ShloMosaic Cert.Proof.Add
open Cert.KernelIdeal Cert.KernelIdeal.Gen

/-- The column sums of a block of counts. -/
def colSums (v : S32x12800.Idx → BitVec 32) : S12800.Idx → BitVec 32 :=
  multiReductionI .add [0] S12800 v 0#32 reduces_S32x12800_S12800 rfl

theorem colSums_apply (v : S32x12800.Idx → BitVec 32) {j : ℕ} (hj : j < 12800) (n : ℕ) (hn : n < 2 ^ 32)
    (h : ∑ w ∈ Finset.range 32, (v (at2 w j)).toNat = n) : (colSums v (at1 j)).toNat = n := by
  have hs : ∑ i ∈ Finset.univ.filter (fun i => (reduces_S32x12800_S12800 : S32x12800.Reduces [0] S12800).drop i = at1 (N := 12800) j), (v i).toNat = n := by
    rw [sum_column, at1_val hj, h]
  exact (WordSum.toNat_multiReductionI_add v reduces_S32x12800_S12800 rfl (at1 j) (by rw [hs]; exact hn)).trans hs

/-- The block's words the minimum is taken of: the column sums, the largest word where the clause is out of range. -/
def masked (p : BitVec 32) (u : S12800.Idx → BitVec 32) : S1x12800.Idx → BitVec 32 :=
  select (cmpi .slt (addi (broadcast S1x12800 (Scalar.muli p 12800#32)) (iota .tc S1x12800 32 [1] iota_S1x12800_d1_w32)) (broadcast S1x12800 100000#32))
    (shapeCast S1x12800 u shapeCasts_S12800_S1x12800) (broadcast S1x12800 2147483647#32)

theorem k2_pay1_eq (i : grid2.Coords) (v : S32x12800.Idx → BitVec 32) :
    k2_pay1 (F := Ideal) i v = shapeCast S1x1x1 (multiReductionI .minsi [1, 2] S1
      (shapeCast S1x1x12800 (masked (BitVec.ofNat 32 (i 0).val) (colSums v)) shapeCasts_S1x12800_S1x1x12800) 2147483647#32 reduces_S1x1x12800_S1 rfl) shapeCasts_S1_S1x1x1 := rfl

/-- The masked words, one by one: clause `12800·t + j`. -/
theorem masked_apply {t : ℕ} (ht : t < 8) (u : S12800.Idx → BitVec 32) {j : ℕ} (hj : j < 12800) :
    masked (BitVec.ofNat 32 t) u (at2 0 j) = if 12800 * t + j < 100000 then u (at1 j) else 2147483647#32 := by
  have h1 : ((at2 0 j : S1x12800.Idx) 1).val = j := at2_one 0 hj
  have e : Shape.reshapeEquiv shapeCasts_S12800_S1x12800 (at2 (R := 1) (C := 12800) 0 j) = at1 (N := 12800) j := by
    refine Shape.reshapeEquiv_eq_of_rowMajor _ ?_
    rw [Shape.rowMajor_val_two, Shape.rowMajor_val_one, at1_val hj, at2_zero j (by decide), at2_one 0 hj]
    show j = 0 * _ + j
    omega
  have hw : (BitVec.ofNat 32 t * 12800#32 + BitVec.ofNat 32 (0 * 12800 + j)).toNat = 12800 * t + j := by
    rw [BitVec.toNat_add, BitVec.toNat_mul, BitVec.toNat_ofNat, BitVec.toNat_ofNat, BitVec.toNat_ofNat]
    omega
  have hc : IntOp.cmpi .slt (BitVec.ofNat 32 t * 12800#32 + BitVec.ofNat 32 (0 * 12800 + j)) 100000#32 = BitVec.ofBool (decide (12800 * t + j < 100000)) := by
    show BitVec.ofBool (BitVec.slt _ _) = _
    rw [BitVec.slt_eq_decide, BitVec.toInt_eq_toNat_of_lt (by omega), hw, show (100000#32 : BitVec 32).toInt = ((100000 : ℕ) : ℤ) from rfl]
    simp only [Nat.cast_lt]
  show Scalar.select (IntOp.cmpi .slt (BitVec.ofNat 32 t * 12800#32 + BitVec.ofNat 32 (0 * 12800 + ((at2 0 j : S1x12800.Idx) 1).val)) 100000#32)
    (u (Shape.reshapeEquiv shapeCasts_S12800_S1x12800 (at2 0 j))) 2147483647#32 = _
  rw [h1, hc, e]
  by_cases h : 12800 * t + j < 100000
  · rw [if_pos h]; simp only [h, decide_true]; rfl
  · rw [if_neg h]; simp only [h, decide_false]; rfl

/-- The minimum of a block, from what its columns sum to. -/
theorem block_least (i : grid2.Coords) {t : ℕ} (ht : t < 8) (hi : (i 0).val = t) (v : S32x12800.Idx → BitVec 32) (f : ℕ → ℕ)
    (hf : ∀ c, f c < 2 ^ 31) (hv : ∀ j < 12800, ∑ w ∈ Finset.range 32, (v (at2 w j)).toNat = f (12800 * t + j)) :
    LeastIn f (12800 * t) (12800 * (t + 1)) (extractAt ![0, 0, 0] (k2_pay1 (F := Ideal) i v) inpos_S1x1x1_p0_0_0).toNat := by
  rw [k2_pay1_eq, hi]
  generalize hg : shapeCast S1x1x12800 (masked (BitVec.ofNat 32 t) (colSums v)) shapeCasts_S1x12800_S1x1x12800 = g
  have key : ∀ y : S1x1x12800.Idx, ∃ j, j = (y 2).val ∧ j < 12800 ∧ (g y).toNat = if 12800 * t + j < 100000 then f (12800 * t + j) else 2147483647 := by
    intro y
    have hy : (y 2).val < 12800 := (y 2).isLt
    have h0 : (y 0).val < 1 := (y 0).isLt
    have h1 : (y 1).val < 1 := (y 1).isLt
    refine ⟨_, rfl, hy, ?_⟩
    have e : Shape.reshapeEquiv shapeCasts_S1x12800_S1x1x12800 y = at2 (R := 1) (C := 12800) 0 (y 2).val := by
      refine Shape.reshapeEquiv_eq_of_rowMajor _ ?_
      rw [Shape.rowMajor_val_two, Shape.rowMajor_val_three, at2_zero _ (by decide), at2_one 0 hy]
      show 0 * 12800 + (y 2).val = ((y 0).val * 1 + (y 1).val) * 12800 + (y 2).val
      omega
    rw [← hg]
    show (masked (BitVec.ofNat 32 t) (colSums v) (Shape.reshapeEquiv shapeCasts_S1x12800_S1x1x12800 y)).toNat = _
    rw [e, masked_apply ht _ hy]
    split
    · exact colSums_apply v hy _ ((hf _).trans (by decide)) (hv _ hy)
    · rfl
  have hg31 : ∀ y, (g y).toNat < 2 ^ 31 := fun y => by
    obtain ⟨j, -, -, e⟩ := key y
    rw [e]; split
    · exact hf _
    · decide
  show LeastIn f _ _ (reduceFold reduces_S1x1x12800_S1 IntOp.minsi 2147483647#32 g _).toNat
  generalize Shape.reshapeEquiv shapeCasts_S1_S1x1x1 _ = z
  unfold reduceFold
  obtain ⟨h1, h2, h3⟩ := foldl_minsi (fun n => g (S1x1x12800.rowMajor.symm n)) (fun n => hg31 _)
    ((List.finRange S1x1x12800.numel).filter fun n => (reduces_S1x1x12800_S1 : S1x1x12800.Reduces [1, 2] S1).drop (S1x1x12800.rowMajor.symm n) = z) 2147483647#32 (by decide)
  refine ⟨lt_of_le_of_lt h2 (by decide), fun c hlo hhi hc => ?_, ?_⟩
  · have hj : c - 12800 * t < 12800 := by omega
    let y : S1x1x12800.Idx := fun | 0 => (⟨0, Nat.one_pos⟩ : Fin 1) | 1 => (⟨0, Nat.one_pos⟩ : Fin 1) | 2 => (⟨c - 12800 * t, hj⟩ : Fin 12800)
    obtain ⟨j, hjy, -, e⟩ := key y
    have hjc : 12800 * t + j = c := by rw [hjy]; show 12800 * t + (c - 12800 * t) = c; omega
    rw [hjc, if_pos hc] at e
    have hm : S1x1x12800.rowMajor y ∈ (List.finRange S1x1x12800.numel).filter fun n => (reduces_S1x1x12800_S1 : S1x1x12800.Reduces [1, 2] S1).drop (S1x1x12800.rowMajor.symm n) = z :=
      List.mem_filter.2 ⟨List.mem_finRange _, decide_eq_true (funext fun b => by
        apply Fin.ext
        have l1 : ((reduces_S1x1x12800_S1 : S1x1x12800.Reduces [1, 2] S1).drop (S1x1x12800.rowMajor.symm (S1x1x12800.rowMajor y)) b).val < S1.size b := Fin.isLt _
        have l2 : (z b).val < S1.size b := Fin.isLt _
        have l3 : S1.size b = 1 := by obtain rfl : b = 0 := Subsingleton.elim _ _; rfl
        omega)⟩
    have := h1 _ hm
    simp only [Equiv.symm_apply_apply] at this
    rw [e] at this
    exact this
  · rcases h3 with h3 | ⟨n, -, h3⟩
    · exact Or.inl h3
    · obtain ⟨j, -, -, e⟩ := key (S1x1x12800.rowMajor.symm n)
      have e' := h3.trans e
      split at e'
      · next hc => exact Or.inr ⟨_, hc, e'.symm⟩
      · exact Or.inl e'

end Cert.Proof

namespace Cert.Proof.OfKernelIdeal

open Idealize.ShloMosaic Cert.Proof.Add
open Cert.KernelIdeal Cert.KernelIdeal.Gen
open Idealize.ShloMosaic.TcCoe

variable (m : (ℓ : Loc nD τ sig) → Buf (Elt Ideal) ℓ) (d : Dev nD)

theorem coord : ∀ t : Fin grid2.N, (grid2.coords t 0).val = t.val := by decide

/-- Where block `t` starts. -/
theorem block_off : ∀ t : Fin grid2.N, ((cfg2.win 0).rect t).off 0 = 0 ∧ ((cfg2.win 0).rect t).off 1 = 12800 * t.val := by decide +kernel

/-- The counts of clause `c`. -/
abbrev N (c : ℕ) : ℕ := holds (vals m d) (pos m d) (neg m d) c

/-- The reducing kernel's block `t` is columns `12800·t` and on of the counts. -/
theorem stg2_apply (V : (c : Dev nD) → Valuation τ sig (Elt Ideal)) (t : Fin grid2.N) {w j : ℕ} (hw : w < 32) (hj : j < 12800) :
    (stg2 (fun c b => V c b) d t (at2 w j : S32x12800.Idx) : BitVec 32) = (V d (main_v6 : DevRef τ sig) : S32x102400.Idx → BitVec 32) (at2 w (12800 * t.val + j)) := by
  have ht : t.val < 8 := t.isLt
  show V d (main_v6 : DevRef τ sig) (((cfg2.win 0).blk t).view.emb (at2 w j)) = _
  congr 1
  have h0 : ((at2 w j : S32x12800.Idx) 0).val = w := at2_zero j hw
  have h1 : ((at2 w j : S32x12800.Idx) 1).val = j := at2_one w hj
  refine eq_at2 _ ?_ ?_
  · show ((cfg2.win 0).rect t).off 0 + 1 * ((at2 w j : S32x12800.Idx) 0).val = _
    rw [h0, (block_off t).1]; omega
  · show ((cfg2.win 0).rect t).off 1 + 1 * ((at2 w j : S32x12800.Idx) 1).val = _
    rw [h1, (block_off t).2]; omega

/-- Its minimum is the least count of its clauses. -/
theorem blockMin_least (hpos : ∀ x, (pos m d x).toNat < 100000) (hneg : ∀ x, (neg m d x).toNat < 100000) (t : Fin grid2.N) :
    LeastIn (N m d) (12800 * t.val) (12800 * (t.val + 1)) (blockMin (fun c b => OfKernelIdeal.V4 m c b) d t).toNat := by
  have ht : t.val < 8 := t.isLt
  unfold blockMin
  refine block_least (grid2.coords t) ht (coord t) _ (N m d) (fun c => (holds_le _ _ _ c).trans_lt (by decide)) fun j hj => ?_
  refine Eq.trans (Finset.sum_congr rfl fun w hw => ?_) (counts_sum m d hpos hneg (12800 * t.val + j))
  rw [stg2_apply d (fun c => OfKernelIdeal.V4 m c) t (Finset.mem_range.1 hw) hj, V4_out, cnt_apply m d (Finset.mem_range.1 hw) (by omega)]

/-- The running minimum after block `t`. -/
theorem Y_least (hpos : ∀ x, (pos m d x).toNat < 100000) (hneg : ∀ x, (neg m d x).toNat < 100000) :
    ∀ (k : ℕ) (hk : k < grid2.N), LeastIn (N m d) 0 (12800 * (k + 1)) (Y m d ⟨k, hk⟩).toNat
  | 0, hk => by
    have h := blockMin_least m d hpos hneg t2_0
    rw [← Y_zero] at h
    exact h
  | k + 1, hk => by
    have h := blockMin_least m d hpos hneg ⟨k + 1, hk⟩
    have ih := Y_least hpos hneg k (Nat.lt_of_succ_lt hk)
    have hm := minsi_toNat ih.1 h.1
    have e : Y m d ⟨k + 1, hk⟩ = IntOp.minsi (Y m d ⟨k, Nat.lt_of_succ_lt hk⟩) (blockMin (fun c b => OfKernelIdeal.V4 m c b) d ⟨k + 1, hk⟩) :=
      Y_next m d ⟨k + 1, hk⟩ (Nat.succ_ne_zero k)
    rw [e, hm]
    exact ih.join h

/-- At the end it is the least count. -/
theorem Y_end (hpos : ∀ x, (pos m d x).toNat < 100000) (hneg : ∀ x, (neg m d x).toNat < 100000) :
    Least (N m d) (Y m d t2_7).toNat :=
  (Y_least m d hpos hneg 7 (by decide)).least (by decide) ((holds_le _ _ _ 0).trans_lt (by decide))

/-- The least count is a small word, so its conversion to a float is the number. -/
theorem Y_float (hpos : ∀ x, (pos m d x).toNat < 100000) (hneg : ∀ x, (neg m d x).toNat < 100000) :
    (FloatOps.sitofp (F := Ideal) .f32 (Y m d t2_7) : EReal) = (((Y m d t2_7).toNat : ℝ) : EReal) := by
  have h := (Y_least m d hpos hneg 7 (by decide)).1
  show ((((Y m d t2_7).toInt : ℤ) : ℝ) : EReal) = _
  rw [BitVec.toInt_eq_toNat_of_lt (by have : (Y m d t2_7).toNat < 2 ^ 31 := h; omega), Int.cast_natCast]

end Cert.Proof.OfKernelIdeal

end
-- ==== Proof.Equation.lean ====
/-
  The kernel's result and the reference's are one number: each is the least, over the 100000 columns, of the number of
  literals that hold there.
-/
module

public import proofs.«01_k».proof.Defs
public import proofs.«01_k».proof.Proof.RefFrame
public import proofs.«01_k».proof.Proof.RefSum
public import proofs.«01_k».proof.Proof.Minimum
public import proofs.«01_k».proof.Proof.FrameIdeal

@[expose] public section

noncomputable section

namespace Cert.Proof

open Idealize.ShloMosaic Idealize.SL.Sem Cert.Proof.Add

/-- A value that compares at least the word of `0.0` and below the word of `1.0` lies in `[0, 1)`. -/
theorem unit_of_cmp (v : EReal)
    (h : FloatOps.cmpf (F := Ideal) (φ := .f32) .oge v (FloatOps.ofBits .f32 0x00000000#32) = 1#1
      ∧ FloatOps.cmpf (F := Ideal) (φ := .f32) .olt v (FloatOps.ofBits .f32 0x3F800000#32) = 1#1) : (0 : EReal) ≤ v ∧ v < 1 := by
  obtain ⟨h0, h1⟩ := h
  have z : (FloatOps.ofBits (F := Ideal) .f32 0x00000000#32 : EReal) = 0 := Ideal.ofBits_zero_f32
  have o : (FloatOps.ofBits (F := Ideal) .f32 0x3F800000#32 : EReal) = 1 := Ideal.ofBits_one_f32
  rw [z] at h0
  rw [o] at h1
  have e0 : BitVec.ofBool (decide ((0 : EReal) ≤ v)) = 1#1 := h0
  have e1 : BitVec.ofBool (decide (v < (1 : EReal))) = 1#1 := h1
  constructor
  · by_contra hn
    rw [decide_eq_false hn] at e0
    exact absurd e0 (by decide)
  · by_contra hn
    rw [decide_eq_false hn] at e1
    exact absurd e1 (by decide)

/-- The reference's value of three arrays in range: the least number of literals that hold in a column. -/
theorem ref_least (x : Cert.ReferenceIdeal.S100000.Idx → EReal) (a b : Cert.ReferenceIdeal.S2x3200000.Idx → BitVec 32)
    (h : Cert.ReferenceIdeal.S2x3200000.ShapeCasts (V1 6400000)) (hx : ∀ j, (0 : EReal) ≤ x j ∧ (x j : EReal) < 1)
    (ha : ∀ i, (a i).toNat < 100000) (hb : ∀ i, (b i).toNat < 100000) (j : Cert.ReferenceIdeal.S_.Idx) :
    ∃ r, Least (holds x (flat a h) (flat b h)) r ∧ refMin (refCounts (refQ x) a b) j = real r :=
  refMin_least _ _ (fun _ hc => refCounts_apply x a b h hx ha hb hc) j

/-- The two results are equal: where `r` is the least count the kernel's minimum stands at, the reference's value is `r`. -/
theorem ref_eq (x : Cert.ReferenceIdeal.S100000.Idx → EReal) (a b : Cert.ReferenceIdeal.S2x3200000.Idx → BitVec 32)
    (h : Cert.ReferenceIdeal.S2x3200000.ShapeCasts (V1 6400000)) (hx : ∀ j, (0 : EReal) ≤ x j ∧ (x j : EReal) < 1)
    (ha : ∀ i, (a i).toNat < 100000) (hb : ∀ i, (b i).toNat < 100000) (p q : (V1 6400000).Idx → BitVec 32) (hp : p = flat a h) (hq : q = flat b h)
    (r : ℕ) (hr : Least (holds x p q) r) : refMin (refCounts (refQ x) a b) = fun _ => real r := by
  subst hp hq
  funext j
  obtain ⟨s, hs, e⟩ := ref_least x a b h hx ha hb j
  rw [e, Least.unique hs hr]

/-- `Cert.algebraic_KernelIdeal_ReferenceIdeal_pre_ranges` (Defs.lean): from arguments in range and equal, the kernel's result and the
    reference's are the same number, and both programs leave their arguments as they were. -/
theorem algebraic : Cert.algebraic_KernelIdeal_ReferenceIdeal_pre_ranges := fun m g m' g' hpre hagree => by
  have hpos := OfKernelIdeal.pos_lt m fun d => (ranges_elements _ _ _ (hpre d)).2.1
  have hneg := OfKernelIdeal.neg_lt m fun d => (ranges_elements _ _ _ (hpre d)).2.2
  refine ⟨fun c => fun _ => FloatOps.sitofp (F := Ideal) .f32 (OfKernelIdeal.Y m c Cert.KernelIdeal.Gen.t2_7), ?_, ?_⟩
  · exact (θ_run Cert.KernelIdeal.defs _ _).mono (fun r h c => ⟨(h.1 c).2, (h.1 c).1⟩) (OfKernelIdeal.run_main (F := Ideal) m g hpos hneg)
  · refine (θ_run Cert.ReferenceIdeal.defs _ _).mono (fun r h c => ⟨(h c).1.trans ?_, (h c).2⟩) (Cert.ReferenceIdeal.Value.run (F := Ideal) m' g')
    obtain ⟨e0, e1, e2⟩ := hagree c
    refine (res_eq m' c).trans ?_
    rw [e0, e1, e2]
    refine (ref_eq _ _ _ Cert.KernelIdeal.Gen.shapeCasts_S2x3200000_S6400000 (fun j => unit_of_cmp _ ((ranges_elements _ _ _ (hpre c)).1 j)) (ranges_elements _ _ _ (hpre c)).2.1
      (ranges_elements _ _ _ (hpre c)).2.2 _ _ (OfKernelIdeal.pos_eq m c) (OfKernelIdeal.neg_eq m c) _ (OfKernelIdeal.Y_end m c (hpos c) (hneg c))).trans ?_
    exact funext fun _ => (OfKernelIdeal.Y_float m c (hpos c) (hneg c)).symm

end Cert.Proof

end
-- ==== Proof.lean ====
module

public import proofs.«01_k».proof.Defs
public import proofs.«01_k».proof.Proof.Frame
public import proofs.«01_k».proof.Proof.FrameIdeal
public import proofs.«01_k».proof.Proof.RefFrame
public import proofs.«01_k».proof.Proof.Equation

@[expose] public section

noncomputable section

namespace Cert.Proof

theorem claim : Cert.Claim := ⟨Cert.Kernel.Gen.facts, Cert.KernelIdeal.Gen.facts, Cert.ReferenceIdeal.Gen.facts, indices_facts, Cert.Pre_ranges.Gen.facts,
  OfKernel.frame, OfKernelIdeal.frame, OfKernelIdeal.frame_ranges, frame_reference, frame_reference_ranges, trivial, algebraic⟩

end Cert.Proof

end
